-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![8192, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![8192, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x32 : Shape := ⟨2, ![512, 32]⟩
abbrev S1024x2 : Shape := ⟨2, ![1024, 2]⟩
abbrev S4x512x1024 : Shape := ⟨3, ![4, 512, 1024]⟩
abbrev S_ : Shape := ⟨0, ![]⟩

class Facts : Prop where
  bcast_S_S1024x512 : S_.BroadcastsInDim S1024x512 (![] : Fin 0 → Fin S1024x512.rank)
  bcast_S_S512x32 : S_.BroadcastsInDim S512x32 (![] : Fin 0 → Fin S512x32.rank)
  bcast_S_S1024x2 : S_.BroadcastsInDim S1024x2 (![] : Fin 0 → Fin S1024x2.rank)

variable [Facts]

def fn {F : FTy → Type} [FloatOps F] (main_arg0 : FVec F S1024x512 .f32) (main_arg1 : FVec F S512x32 .f32) (main_arg2 : IVec S1024x2 32) (main_arg3 : FVec F S4x512x1024 .f32) : IVec S1024x512 1 × IVec S512x32 1 × IVec S1024x2 1 × IVec S1024x2 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_v3 : FVec F S512x32 .f32 := Host.absf main_arg1
  let main_cst_0 : FVec F S_ .f32 := constant S_ .f32 0x7F800000#32
  let main_v4 : FVec F S512x32 .f32 := broadcastInDim S512x32 ![] bcast_S_S512x32 main_cst_0
  let main_v5 : IVec S512x32 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 32#32
  let main_v8 : IVec S1024x2 32 := broadcastInDim S1024x2 ![] bcast_S_S1024x2 main_c_1
  let main_v9 : IVec S1024x2 1 := cmpi .slt main_arg2 main_v8
  (main_v2, main_v5, main_v7, main_v9)
-- ==== Pre_routed_ReferenceIdeal.lean ====
abbrev S8192x512 : Shape := ⟨2, ![8192, 512]⟩
abbrev S512x32 : Shape := ⟨2, ![512, 32]⟩
abbrev S8192x2 : Shape := ⟨2, ![8192, 2]⟩
abbrev S32x512x1024 : Shape := ⟨3, ![32, 512, 1024]⟩
abbrev S_ : Shape := ⟨0, ![]⟩

class Facts : Prop where
  bcast_S_S8192x512 : S_.BroadcastsInDim S8192x512 (![] : Fin 0 → Fin S8192x512.rank)
  bcast_S_S512x32 : S_.BroadcastsInDim S512x32 (![] : Fin 0 → Fin S512x32.rank)
  bcast_S_S8192x2 : S_.BroadcastsInDim S8192x2 (![] : Fin 0 → Fin S8192x2.rank)

variable [Facts]

def fn {F : FTy → Type} [FloatOps F] (main_arg0 : FVec F S8192x512 .f32) (main_arg1 : FVec F S512x32 .f32) (main_arg2 : IVec S8192x2 32) (main_arg3 : FVec F S32x512x1024 .f32) : IVec S8192x512 1 × IVec S512x32 1 × IVec S8192x2 1 × IVec S8192x2 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S512x32 .f32 := Host.absf main_arg1
  let main_cst_0 : FVec F S_ .f32 := constant S_ .f32 0x7F800000#32
  let main_v4 : FVec F S512x32 .f32 := broadcastInDim S512x32 ![] bcast_S_S512x32 main_cst_0
  let main_v5 : IVec S512x32 1 := cmpf .olt main_v3 main_v4
  let main_c : IVec S_ 32 := constantI S_ 32 0#32
  let main_v6 : IVec S8192x2 32 := broadcastInDim S8192x2 ![] bcast_S_S8192x2 main_c
  let main_v7 : IVec S8192x2 1 := cmpi .sge main_arg2 main_v6
  let main_c_1 : IVec S_ 32 := constantI S_ 32 32#32
  let main_v8 : IVec S8192x2 32 := broadcastInDim S8192x2 ![] bcast_S_S8192x2 main_c_1
  let main_v9 : IVec S8192x2 1 := cmpi .slt main_arg2 main_v8
  (main_v2, main_v5, main_v7, main_v9)
-- ==== Kernel.lean ====
abbrev S1024x512 : Shape := ⟨2, ![1024, 512]⟩
abbrev S512x32 : Shape := ⟨2, ![512, 32]⟩
abbrev S1024x2 : Shape := ⟨2, ![1024, 2]⟩
abbrev S4x512x1024 : Shape := ⟨3, ![4, 512, 1024]⟩
abbrev S1024x1024 : Shape := ⟨2, ![1024, 1024]⟩
abbrev S2x2x512x1024 : Shape := ⟨4, ![2, 2, 512, 1024]⟩
abbrev S2 : Shape := ⟨1, ![2]⟩
abbrev S_ : Shape := ⟨0, ![]⟩
abbrev S1024x32 : Shape := ⟨2, ![1024, 32]⟩
abbrev S1024x1 : Shape := ⟨2, ![1024, 1]⟩
abbrev S1024 : Shape := ⟨1, ![1024]⟩
abbrev S2x512x1024 : Shape := ⟨3, ![2, 512, 1024]⟩
abbrev S1x2x512x1024 : Shape := ⟨4, ![1, 2, 512, 1024]⟩
abbrev S1 : Shape := ⟨1, ![1]⟩
abbrev S1x4 : Shape := ⟨2, ![1, 4]⟩
abbrev S1024x4 : Shape := ⟨2, ![1024, 4]⟩
abbrev S1024x1x512 : Shape := ⟨3, ![1024, 1, 512]⟩
abbrev S1024x4x1 : Shape := ⟨3, ![1024, 4, 1]⟩
abbrev S1024x4x512 : Shape := ⟨3, ![1024, 4, 512]⟩
abbrev S1024x2048 : Shape := ⟨2, ![1024, 2048]⟩
abbrev S2048x1024 : Shape := ⟨2, ![2048, 1024]⟩
abbrev S1x2 : Shape := ⟨2, ![1, 2]⟩
abbrev S1024x2x1 : Shape := ⟨3, ![1024, 2, 1]⟩
abbrev S1024x2x512 : Shape := ⟨3, ![1024, 2, 512]⟩

abbrev nBuf : Space → Nat
  | .hbm => 5
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S512x32, .f32⟩
  | .hbm, ⟨2, _⟩ => ⟨S1024x2, .i32⟩
  | .hbm, ⟨3, _⟩ => ⟨S4x512x1024, .f32⟩
  | .hbm, ⟨4, _⟩ => ⟨S1024x1024, .f32⟩
  | .local _ .vmem, ⟨0, _⟩ => ⟨S1024x512, .f32⟩
  | .local _ .vmem, ⟨1, _⟩ => ⟨S512x32, .f32⟩
  | .local _ .vmem, ⟨2, _⟩ => ⟨S1024x2, .i32⟩
  | .local _ .vmem, ⟨3, _⟩ => ⟨S4x512x1024, .f32⟩
  | .local _ .vmem, ⟨4, _⟩ => ⟨S1024x1024, .f32⟩
  | .local _ .vmem, ⟨5, _⟩ => ⟨S2x2x512x1024, .bf16⟩
  | .local _ .vmem, ⟨6, _⟩ => ⟨S2x2x512x1024, .bf16⟩
  | .local _ .vmem, ⟨7, _⟩ => ⟨S4x512x1024, .bf16⟩
  | .local _ .vmem, ⟨8, _⟩ => ⟨S4x512x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => true
  | ⟨1, _⟩ => true
  | ⟨2, _⟩ => false
  | ⟨3, _⟩ => true
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 4 15 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_8 : BitVec 32 := 1#32
  let v15 : BitVec 32 := Scalar.muli v11 c1_i32_8
  let v16 : BitVec 32 := Scalar.addi c0_i32 v15
  v16.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_10 : BitVec 32 := 1#32
  let v17 : BitVec 32 := Scalar.muli v7 c1_i32_10
  let v18 : BitVec 32 := Scalar.addi c0_i32_11 v17
  v18.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v12 : BitVec 32 := Scalar.addi v2 c4_i32_5
  let c8_i32_6 : BitVec 32 := 8#32
  let v13 : BitVec 32 := Scalar.remsi v12 c8_i32_6
  let c1_i32_13 : BitVec 32 := 1#32
  let v19 : BitVec 32 := Scalar.muli v13 c1_i32_13
  let v20 : BitVec 32 := Scalar.addi c0_i32_14 v19
  v20.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v12 : BitVec 32 := Scalar.addi v2 c4_i32_5
  let c8_i32_6 : BitVec 32 := 8#32
  let v13 : BitVec 32 := Scalar.remsi v12 c8_i32_6
  let c1_i32_40 : BitVec 32 := 1#32
  let v60 : BitVec 32 := Scalar.muli v13 c1_i32_40
  let v61 : BitVec 32 := Scalar.addi c0_i32_41 v60
  v61.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_46 : BitVec 32 := 1#32
  let v62 : BitVec 32 := Scalar.muli v7 c1_i32_46
  let v63 : BitVec 32 := Scalar.addi c0_i32_47 v62
  v63.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_58 : BitVec 32 := 1#32
  let v72 : BitVec 32 := Scalar.muli v11 c1_i32_58
  let v73 : BitVec 32 := Scalar.addi c0_i32_59 v72
  v73.toNat
def k0_dev7 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_120 : BitVec 32 := 1#32
  let v144 : BitVec 32 := Scalar.muli v11 c1_i32_120
  let v145 : BitVec 32 := Scalar.addi c0_i32_121 v144
  v145.toNat
def k0_dev8 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_123 : BitVec 32 := 1#32
  let v146 : BitVec 32 := Scalar.muli v7 c1_i32_123
  let v147 : BitVec 32 := Scalar.addi c0_i32_124 v146
  v147.toNat
def k0_dev9 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_133 : BitVec 32 := 1#32
  let v148 : BitVec 32 := Scalar.muli v7 c1_i32_133
  let v149 : BitVec 32 := Scalar.addi c0_i32_134 v148
  v149.toNat
def k0_dev10 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_145 : BitVec 32 := 1#32
  let v158 : BitVec 32 := Scalar.muli v11 c1_i32_145
  let v159 : BitVec 32 := Scalar.addi c0_i32_146 v158
  v159.toNat
def k0_dev11 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_225 : BitVec 32 := 1#32
  let v276 : BitVec 32 := Scalar.muli v11 c1_i32_225
  let v277 : BitVec 32 := Scalar.addi c0_i32_226 v276
  v277.toNat
def k0_dev12 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_228 : BitVec 32 := 1#32
  let v278 : BitVec 32 := Scalar.muli v7 c1_i32_228
  let v279 : BitVec 32 := Scalar.addi c0_i32_229 v278
  v279.toNat
def k0_dev13 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_238 : BitVec 32 := 1#32
  let v280 : BitVec 32 := Scalar.muli v7 c1_i32_238
  let v281 : BitVec 32 := Scalar.addi c0_i32_239 v280
  v281.toNat
def k0_dev14 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_250 : BitVec 32 := 1#32
  let v290 : BitVec 32 := Scalar.muli v11 c1_i32_250
  let v291 : BitVec 32 := Scalar.addi c0_i32_251 v290
  v291.toNat
def k0_dev15 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_331 : BitVec 32 := 1#32
  let v408 : BitVec 32 := Scalar.muli v11 c1_i32_331
  let v409 : BitVec 32 := Scalar.addi c0_i32_332 v408
  v409.toNat
def k0_dev16 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_334 : BitVec 32 := 1#32
  let v410 : BitVec 32 := Scalar.muli v7 c1_i32_334
  let v411 : BitVec 32 := Scalar.addi c0_i32_335 v410
  v411.toNat
def k0_dev17 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_345 : BitVec 32 := 1#32
  let v414 : BitVec 32 := Scalar.muli v7 c1_i32_345
  let v415 : BitVec 32 := Scalar.addi c0_i32_346 v414
  v415.toNat
def k0_dev18 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_356 : BitVec 32 := 1#32
  let v423 : BitVec 32 := Scalar.muli v11 c1_i32_356
  let v424 : BitVec 32 := Scalar.addi c0_i32_357 v423
  v424.toNat
def k0_dev19 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_442 : BitVec 32 := 1#32
  let v571 : BitVec 32 := Scalar.muli v11 c1_i32_442
  let v572 : BitVec 32 := Scalar.addi c0_i32_443 v571
  v572.toNat
def k0_dev20 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_445 : BitVec 32 := 1#32
  let v573 : BitVec 32 := Scalar.muli v7 c1_i32_445
  let v574 : BitVec 32 := Scalar.addi c0_i32_446 v573
  v574.toNat
def k0_dev21 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_455 : BitVec 32 := 1#32
  let v575 : BitVec 32 := Scalar.muli v7 c1_i32_455
  let v576 : BitVec 32 := Scalar.addi c0_i32_456 v575
  v576.toNat
def k0_dev22 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_467 : BitVec 32 := 1#32
  let v585 : BitVec 32 := Scalar.muli v11 c1_i32_467
  let v586 : BitVec 32 := Scalar.addi c0_i32_468 v585
  v586.toNat
def k0_dev23 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_552 : BitVec 32 := 1#32
  let v707 : BitVec 32 := Scalar.muli v11 c1_i32_552
  let v708 : BitVec 32 := Scalar.addi c0_i32_553 v707
  v708.toNat
def k0_dev24 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_555 : BitVec 32 := 1#32
  let v709 : BitVec 32 := Scalar.muli v7 c1_i32_555
  let v710 : BitVec 32 := Scalar.addi c0_i32_556 v709
  v710.toNat
def k0_dev25 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_565 : BitVec 32 := 1#32
  let v711 : BitVec 32 := Scalar.muli v7 c1_i32_565
  let v712 : BitVec 32 := Scalar.addi c0_i32_566 v711
  v712.toNat
def k0_dev26 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_577 : BitVec 32 := 1#32
  let v721 : BitVec 32 := Scalar.muli v11 c1_i32_577
  let v722 : BitVec 32 := Scalar.addi c0_i32_578 v721
  v722.toNat
def k0_dev27 (d0 : Dev nD) : Nat :=
  let c0_i32_694_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c4_i32_2 : BitVec 32 := 4#32
  let v8 : BitVec 32 := Scalar.addi v3 c4_i32_2
  let c1_i32_3 : BitVec 32 := 1#32
  let v9 : BitVec 32 := Scalar.subi v8 c1_i32_3
  let c4_i32_4 : BitVec 32 := 4#32
  let v10 : BitVec 32 := Scalar.remsi v9 c4_i32_4
  let v11 : BitVec 32 := Scalar.addi v4 v10
  let c1_i32_693_r0 : BitVec 32 := 1#32
  let v928_r0 : BitVec 32 := Scalar.muli v11 c1_i32_693_r0
  let v929_r0 : BitVec 32 := Scalar.addi c0_i32_694_r0 v928_r0
  v929_r0.toNat
def k0_dev28 (d0 : Dev nD) : Nat :=
  let c0_i32_697_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_696_r0 : BitVec 32 := 1#32
  let v930_r0 : BitVec 32 := Scalar.muli v7 c1_i32_696_r0
  let v931_r0 : BitVec 32 := Scalar.addi c0_i32_697_r0 v930_r0
  v931_r0.toNat
def k0_dev29 (d0 : Dev nD) : Nat :=
  let c0_i32_700_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v12 : BitVec 32 := Scalar.addi v2 c4_i32_5
  let c8_i32_6 : BitVec 32 := 8#32
  let v13 : BitVec 32 := Scalar.remsi v12 c8_i32_6
  let c1_i32_699_r0 : BitVec 32 := 1#32
  let v932_r0 : BitVec 32 := Scalar.muli v13 c1_i32_699_r0
  let v933_r0 : BitVec 32 := Scalar.addi c0_i32_700_r0 v932_r0
  v933_r0.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x512 : Shape := ⟨2, ![8192, 512]⟩
abbrev S512x32 : Shape := ⟨2, ![512, 32]⟩
abbrev S8192x2 : Shape := ⟨2, ![8192, 2]⟩
abbrev S32x512x1024 : Shape := ⟨3, ![32, 512, 1024]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x512x1024 : Shape := ⟨3, ![8192, 512, 1024]⟩
abbrev S8192x1024 : Shape := ⟨2, ![8192, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x32, .f32⟩
  | .hbm, ⟨2, _⟩ => ⟨S8192x2, .i32⟩
  | .hbm, ⟨3, _⟩ => ⟨S32x512x1024, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x32, .f32⟩
  | .hbm, ⟨15, _⟩ => ⟨S8192x32, .f32⟩
  | .hbm, ⟨16, _⟩ => ⟨S8192x1, .i32⟩
  | .hbm, ⟨17, _⟩ => ⟨S8192, .i32⟩
  | .hbm, ⟨18, _⟩ => ⟨S8192x1, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x1, .i32⟩
  | .hbm, ⟨37, _⟩ => ⟨S8192x2, .i32⟩
  | .hbm, ⟨38, _⟩ => ⟨S8192, .f32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192x1, .i32⟩
  | .hbm, ⟨55, _⟩ => ⟨S8192x2, .i32⟩
  | .hbm, ⟨56, _⟩ => ⟨S8192, .f32⟩
  | .hbm, ⟨57, _⟩ => ⟨S8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S8192x512x1024, .f32⟩
  | .hbm, ⟨67, _⟩ => ⟨S8192x1024, .f32⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S8192x1, .i32⟩
  | .hbm, ⟨76, _⟩ => ⟨S8192x512x1024, .f32⟩
  | .hbm, ⟨77, _⟩ => ⟨S8192x1024, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Protocol.lean ====
/-
# The protocol of the two-ring expert exchange

Eight devices stand in two planes of four. In each plane the devices form a ring that is walked both ways at once
(direction `true`: to the right; `false`: to the left), and each device has one partner in the other plane.
This module writes down the devices' neighbours, the buffers' slots, the semaphores, what every landing holds, and the
schedule of rounds of every semaphore: who pays, how many units, and what a payment hands over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.MemrefSat
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the rounds: cells are semaphores, a round has at most three duties. -/
abbrev UB : Type := URounds (GSem nD τ sig) (Fin 3)
/-- The pipeline's ghost state beside the rounds'. -/
abbrev UU : Type := UR sig nD τ × UB

local notation "𝕄" => MT nD τ sig ℕ (Elt F) ℕ UU ℕ

/-- Where the windows' accounts lie in the ghost state. -/
abbrev EP : Emb (UR sig nD τ) (MT nD τ sig ℕ (Elt F) ℕ UU ℕ) := embL
/-- Where the rounds' accounts lie in it. -/
abbrev ER : Emb UB (MT nD τ sig ℕ (Elt F) ℕ UU ℕ) := embR

variable (m : (ℓ : Loc nD τ sig) → Buf (Elt F) ℓ) (ρ : Dev nD → PrngReg)

/-- The state before the run: any memory, every counter at zero. -/
def s₀ : MemSt nD τ sig (Elt F) := ⟨m, fun _ => 0, ρ⟩

/-! ## The devices -/

set_option backward.proofsInPublic true in
/-- The right neighbour in the plane. -/
def rt (c : Dev nD) : Dev nD := ⟨c.val / 4 * 4 + (c.val % 4 + 1) % 4, by have := c.isLt; have : nD = 8 := rfl; omega⟩
set_option backward.proofsInPublic true in
/-- The left neighbour in the plane. -/
def lf (c : Dev nD) : Dev nD := ⟨c.val / 4 * 4 + (c.val % 4 + 3) % 4, by have := c.isLt; have : nD = 8 := rfl; omega⟩
set_option backward.proofsInPublic true in
/-- The partner in the other plane. -/
def zp (c : Dev nD) : Dev nD := ⟨(c.val + 4) % 8, Nat.mod_lt _ (by decide)⟩

/-- The ring's two directions undo each other, and so does the other plane. -/
theorem rt_lf (c : Dev nD) : rt (lf c) = c := by revert c; decide
theorem lf_rt (c : Dev nD) : lf (rt c) = c := by revert c; decide
theorem zp_zp (c : Dev nD) : zp (zp c) = c := by revert c; decide

/-- Where direction `d` sends: right for `true`, left for `false`. -/
def dst (d : Bool) (c : Dev nD) : Dev nD := if d then rt c else lf c
/-- Whence direction `d` receives. -/
def src (d : Bool) (c : Dev nD) : Dev nD := if d then lf c else rt c
/-- The source and the destination of a direction undo each other. -/
theorem src_dst (d : Bool) (c : Dev nD) : src d (dst d c) = c := by cases d; exact rt_lf c; exact lf_rt c
theorem dst_src (d : Bool) (c : Dev nD) : dst d (src d c) = c := by cases d; exact lf_rt c; exact rt_lf c

/-! ## The buffers' parts -/

/-- The ring buffer of direction `d`: two slots of half a device's experts each. -/
abbrev comm (d : Bool) : Memref sig .tc .vmem S2x2x512x1024 .bf16 :=
  match d with | true => Memref.whole cc0_scratch0 | false => Memref.whole cc0_scratch1
/-- The block sent to the partner, and the block received from it. -/
abbrev zsM : Memref sig .tc .vmem S4x512x1024 .bf16 := Memref.whole cc0_scratch2
/-- The buffer for the plane neighbour's four experts. -/
abbrev zbM : Memref sig .tc .vmem S4x512x1024 .bf16 := Memref.whole cc0_scratch3

/-- A slot lies within its buffer. -/
theorem inb_slot (s : Fin 2) : ∀ a, (![s.val, 0, 0, 0] : Fin 4 → Nat) a + S1x2x512x1024.size a ≤ S2x2x512x1024.size a := by
  revert s; decide
/-- Slot `s`'s rectangle in a ring buffer. -/
abbrev slotR (s : Fin 2) : Rect S2x2x512x1024 := Rect.unit (s := S2x2x512x1024) ![s.val, 0, 0, 0] S1x2x512x1024.size (inb_slot s)
/-- Slot `s` of direction `d`'s ring buffer, as the transfers name it. -/
abbrev slotM (d : Bool) (s : Fin 2) : Memref sig .tc .vmem S2x512x1024 .bf16 :=
  ((comm d).slice (slotR s) (fun _ => rfl)).squeeze S2x512x1024 squeezes_S1x2x512x1024_S2x512x1024

/-- Where direction `d`'s half begins in a device's four experts: the first two go right, the last two left. -/
abbrev zoff (d : Bool) : ℕ := match d with | true => 0 | false => 2
/-- A half lies within the four experts. -/
theorem inb_half (d : Bool) : ∀ a, (![zoff d, 0, 0] : Fin 3 → Nat) a + S2x512x1024.size a ≤ S4x512x1024.size a := by
  revert d; decide
/-- Direction `d`'s half of the partner's block, as a rectangle and as the transfers name it. -/
abbrev halfR (d : Bool) : Rect S4x512x1024 := Rect.unit (s := S4x512x1024) ![zoff d, 0, 0] S2x512x1024.size (inb_half d)
/-- A direction's half of the plane neighbour's buffer. -/
abbrev zhM (d : Bool) : Memref sig .tc .vmem S2x512x1024 .bf16 := zbM.slice (halfR d) (fun _ => rfl)

/-! ## The semaphores -/

/-- The fourteen semaphores of a device: the barrier's, the exit's, per direction and slot the send and the receive one,
    the partner transfer's two, per direction the credit one. -/
inductive Kd where
  | bar | ex | snd (d : Bool) (s : Fin 2) | rcv (d : Bool) (s : Fin 2) | zs | zr | cr (d : Bool)
  deriving DecidableEq

namespace Kd
/-- All of them; the barrier's first, the kernel's own in the order of their declaration. -/
abbrev all : List Kd := [bar, snd true 0, snd true 1, rcv true 0, rcv true 1, snd false 0, snd false 1, rcv false 0, rcv false 1, zs, zr, cr true, cr false, ex]
instance : Fintype Kd := ⟨⟨all, by decide⟩, fun k => by rcases k with _ | _ | ⟨_ | _, s⟩ | ⟨_ | _, s⟩ | _ | _ | ⟨_ | _⟩ <;> (try fin_cases s) <;> decide⟩
end Kd

/-- The machine's DMA semaphores: sends and receives by direction and slot. -/
abbrev sndS (d : Bool) (s : Fin 2) : DmaSem sig :=
  match d with | true => ⟨5 + s.val, by revert s; decide⟩ | false => ⟨9 + s.val, by revert s; decide⟩
@[inherit_doc sndS] abbrev rcvS (d : Bool) (s : Fin 2) : DmaSem sig :=
  match d with | true => ⟨7 + s.val, by revert s; decide⟩ | false => ⟨11 + s.val, by revert s; decide⟩
/-- The credits, by direction. -/
abbrev crS (d : Bool) : Sem sig := match d with | true => cc0_scratch10.sem | false => cc0_scratch11.sem
/-- The runtime's barrier semaphore, and the exit's. -/
abbrev barS : Sem sig := (SemArray.scalar (sig.barrier 0 rfl) : Sems sig S_).sem
@[inherit_doc barS] abbrev exS : Sem sig := cc0_scoped0.sem

/-- The machine's semaphore of each kind. -/
abbrev semOf : Kd → SemLoc sig
  | .bar => .reg barS
  | .ex => .reg exS
  | .snd d s => .dma (sndS d s)
  | .rcv d s => .dma (rcvS d s)
  | .zs => .dma cc0_scratch8.sem
  | .zr => .dma cc0_scratch9.sem
  | .cr d => .reg (crS d)

/-- Which of a device's semaphores a machine's one is, if it is one of them. -/
def kdOf (sm : SemLoc sig) : Option Kd := Kd.all.find? fun k => decide (semOf k = sm)
/-- A semaphore's kind is read off it. -/
theorem kdOf_semOf : ∀ k : Kd, kdOf (semOf k) = some k := by decide

/-- Device `c`'s semaphore of a kind. -/
abbrev cell (k : Kd) (c : Dev nD) : GSem nD τ sig := ((c : Thread nD τ), semOf k)

/-- The credit of half a block's transfer, and of a whole block's. -/
abbrev NH : ℕ := (slotM true 0).view.dmaCredit
@[inherit_doc NH] abbrev NB : ℕ := zbM.view.dmaCredit
/-- A half's copy credits more than nothing, and so does a whole block's. -/
theorem NH_pos : 0 < NH := View.dmaCredit_pos _ (by decide)
theorem NB_pos : 0 < NB := View.dmaCredit_pos _ (by decide)
/-- A copy into a slot, or of a half, credits a half's amount. -/
theorem credit_slot (d : Bool) (s : Fin 2) : (slotM d s).view.dmaCredit = NH := by cases d <;> rfl
theorem credit_half (d : Bool) : (zhM d).view.dmaCredit = NH := by cases d <;> rfl

/-! ## What the buffers hold -/

/-- The four inputs as staged on device `c`: its tokens, the router's weights, the tokens' expert choices, its experts. -/
def xst (c : Dev nD) : Vec F S1024x512 .f32 := (win0_0.blk (0 : Fin 1)).view.read (Elt F) ((s₀ m ρ).mem ((c : Thread nD τ).loc main_arg0))
@[inherit_doc xst] def rst (c : Dev nD) : Vec F S512x32 .f32 := (win0_1.blk (0 : Fin 1)).view.read (Elt F) ((s₀ m ρ).mem ((c : Thread nD τ).loc main_arg1))
@[inherit_doc xst] def ist (c : Dev nD) : Vec F S1024x2 .i32 := (win0_2.blk (0 : Fin 1)).view.read (Elt F) ((s₀ m ρ).mem ((c : Thread nD τ).loc main_arg2))
@[inherit_doc xst] def est (c : Dev nD) : Vec F S4x512x1024 .f32 := (win0_3.blk (0 : Fin 1)).view.read (Elt F) ((s₀ m ρ).mem ((c : Thread nD τ).loc main_arg3))

/-- A slot's contents without the slot's axis, and with it. -/
def dn (w : Vec F S1x2x512x1024 .bf16) : Vec F S2x512x1024 .bf16 := fun x => w (Shape.reshapeEquiv squeezes_S1x2x512x1024_S2x512x1024.numel_eq x)
@[inherit_doc dn] def up (w : Vec F S2x512x1024 .bf16) : Vec F S1x2x512x1024 .bf16 :=
  fun y => w ((Shape.reshapeEquiv squeezes_S1x2x512x1024_S2x512x1024.numel_eq).symm y)
/-- Direction `d`'s half of a block. -/
def half (d : Bool) (w : Vec F S4x512x1024 .bf16) : Vec F S2x512x1024 .bf16 := fun j => w ((halfR d).emb j)

/-- Device `c`'s block as it goes to its partner, and its two halves as they start round the ring. -/
def zC (c : Dev nD) : Vec F S4x512x1024 .bf16 := k0_pay11 (est m ρ c)
@[inherit_doc zC] def own (d : Bool) (c : Dev nD) : Vec F S2x512x1024 .bf16 :=
  match d with | true => dn (k0_pay9 (est m ρ c)) | false => dn (k0_pay10 (est m ρ c))

/-- What direction `d`'s slot holds on device `c` after hop `h`: at the start its own half; at the fourth hop the sender
    sends its partner's half on; at any other hop what the sender held after the hop before. -/
def con (d : Bool) : ℕ → Dev nD → Vec F S2x512x1024 .bf16
  | 0, c => own m ρ d c
  | h + 1, c => if h + 1 = 4 then half d (zC m ρ (zp (src d c))) else con d h (src d c)

/-! ## The schedule -/

/-- The slot that hop `h` lands in, and the round of its semaphores. -/
abbrev sl (h : ℕ) : Fin 2 := ⟨h % 2, Nat.mod_lt _ (by decide)⟩
@[inherit_doc sl] abbrev rd (h : ℕ) : ℕ := (h - 1) / 2

/-- What hop `h` of direction `d` lends of its source for the transfer's duration: a half share. -/
def lent (d : Bool) (h : ℕ) (s : Fin 2) (c : Dev nD) : sProp 𝕄 :=
  if h = 4 then owns (c : Thread nD τ) (zhM d) fullShare.left (half d (zC m ρ (zp c)))
  else owns (c : Thread nD τ) (slotM d s) fullShare.left (con m ρ d (h - 1) c)

/-- What hop `h`'s landing hands over: the slot, holding what was sent; and that the sender has taken its credit for this hop. -/
def landed (d : Bool) (h : ℕ) (s : Fin 2) (c : Dev nD) : sProp 𝕄 :=
  iprop(owns (c : Thread nD τ) (slotM d s) fullShare (con m ρ d h c) ∗ reached ER (cell (.cr d) (src d c)) (h - 1))

/-- What a credit hands over: the receiver's slot for the next hop, free, and that the receiver has come to that hop's round. -/
def credit (d : Bool) (r : ℕ) (s : Fin 2) (c : Dev nD) : sProp 𝕄 :=
  iprop((∃ X : Vec F S2x512x1024 .bf16, owns (c : Thread nD τ) (slotM d s) fullShare X) ∗ reached ER (cell (.rcv d s) c) r)

/-- What the barrier hands over: from the right and the left neighbour the first landing slot, from the partner its landing buffer. -/
def barPay (c : Dev nD) (t : Fin 3) : sProp 𝕄 :=
  if t = 0 then iprop(∃ X : Vec F S2x512x1024 .bf16, owns (rt c : Thread nD τ) (slotM true 1) fullShare X)
  else if t = 1 then iprop(∃ X : Vec F S2x512x1024 .bf16, owns (lf c : Thread nD τ) (slotM false 1) fullShare X)
  else iprop(∃ X : Vec F S4x512x1024 .bf16, owns (zp c : Thread nD τ) zbM fullShare X)

/-- The duties of a round of a kind. -/
def dut (k : Kd) (r : ℕ) : Finset (Fin 3) :=
  match k with
  | .bar | .ex => if r < 1 then Finset.univ else ∅
  | .zs | .zr => if r < 1 then {0} else ∅
  | .snd _ _ | .rcv _ _ => if r < 3 then {0} else ∅
  | .cr _ => if r < 5 then {0} else ∅

/-- The units of a duty of a kind. -/
def amt : Kd → ℕ
  | .bar | .ex | .cr _ => 1
  | .zs | .zr => NB
  | .snd _ _ | .rcv _ _ => NH

/-- What a duty of a kind hands over to the owner `c`. -/
def pay (k : Kd) (c : Dev nD) (r : ℕ) (t : Fin 3) : sProp 𝕄 :=
  match k with
  | .bar => barPay c t
  | .ex => iprop(emp)
  | .snd d s => lent m ρ d (2 * r + s.val + 1) s c
  | .rcv d s => landed m ρ d (2 * r + 2 - s.val) s c
  | .zs => owns (c : Thread nD τ) zsM fullShare (zC m ρ c)
  | .zr => owns (c : Thread nD τ) zbM fullShare (zC m ρ (zp c))
  | .cr d => credit d ((r + 1) / 2) (sl r) (dst d c)

/-- Every duty's amount is positive. -/
theorem amt_pos (k : Kd) : 0 < amt k := by
  cases k <;> first | exact Nat.one_pos | exact NH_pos | exact NB_pos

/-- The schedule of all cells. -/
def Rd : Rounds.Schedule (GSem nD τ sig) (Fin 3) 𝕄 where
  duties g r := if g.1.2 = .tc then (kdOf g.2).elim ∅ fun k => dut k r else ∅
  unitless _ := False
  amount g _ _ := (kdOf g.2).elim 1 amt
  payload g r t := (kdOf g.2).elim iprop(emp) fun k => pay m ρ k g.1.1 r t
  amount_pos g _ _ _ := by
    cases kdOf g.2 with
    | none => exact Nat.one_pos
    | some k => exact amt_pos k

/-- Every payload can be kept in a record. -/
theorem pay_storable (k : Kd) (c : Dev nD) (r : ℕ) (t : Fin 3) : BI.Storable (upEmb : UEmb _ 𝕄) (pay m ρ k c r t) := by
  cases k <;> dsimp only [pay] <;> (try unfold barPay) <;> (try unfold lent) <;> (try unfold landed) <;> (try unfold credit) <;>
    (repeat' split) <;> infer_instance

/-- So can the schedule's. -/
instance Rd_payload_storable (g : GSem nD τ sig) (r : ℕ) (t : Fin 3) : BI.Storable (upEmb : UEmb _ 𝕄) ((Rd (F := F) m ρ).payload g r t) := by
  show BI.Storable upEmb ((kdOf g.2).elim iprop(emp) fun k => pay m ρ k g.1.1 r t)
  cases kdOf g.2 with
  | none => show BI.Storable upEmb (iprop(emp) : sProp 𝕄); infer_instance
  | some k => exact pay_storable m ρ k g.1.1 r t

/-- The schedule's tables at a device's semaphore. -/
theorem duties_cell (k : Kd) (c : Dev nD) (r : ℕ) : (Rd (F := F) m ρ).duties (cell k c) r = dut k r := by
  dsimp only [Rd]; rw [if_pos rfl, kdOf_semOf]; rfl
theorem amount_cell (k : Kd) (c : Dev nD) (r : ℕ) (t : Fin 3) : (Rd (F := F) m ρ).amount (cell k c) r t = amt k := by
  dsimp only [Rd]; rw [kdOf_semOf]; rfl
theorem payload_cell (k : Kd) (c : Dev nD) (r : ℕ) (t : Fin 3) : (Rd (F := F) m ρ).payload (cell k c) r t = pay m ρ k c r t := by
  dsimp only [Rd]; rw [kdOf_semOf]; rfl

/-- A round of one duty expects that duty's units. -/
theorem expect_one (k : Kd) (c : Dev nD) (r : ℕ) (h : dut k r = {0}) : (Rd (F := F) m ρ).expect (cell k c) r = amt k := by
  unfold Schedule.expect Schedule.amountOf
  rw [duties_cell, h, Finset.sum_singleton, amount_cell]
/-- A round of all three expects thrice as much. -/
theorem expect_three (k : Kd) (c : Dev nD) (r : ℕ) (h : dut k r = Finset.univ) : (Rd (F := F) m ρ).expect (cell k c) r = 3 * amt k := by
  unfold Schedule.expect Schedule.amountOf
  rw [duties_cell, h, Finset.sum_congr rfl fun t _ => amount_cell m ρ k c r t, Finset.sum_const, Finset.card_univ, Fintype.card_fin, smul_eq_mul]
/-- What is left of a round of one duty, none taken: the duty's payload. -/
theorem rest_one (k : Kd) (c : Dev nD) (r : ℕ) (h : dut k r = {0}) :
    bigSep ((Rd (F := F) m ρ).duties (cell k c) r \ ∅) (fun t => (Rd (F := F) m ρ).payload (cell k c) r t) = pay m ρ k c r 0 := by
  rw [Finset.sdiff_empty, duties_cell, h, bigSep_singleton, payload_cell]
/-- What is left of a round of all three, none taken: the three payloads. -/
theorem rest_three (k : Kd) (c : Dev nD) (r : ℕ) (h : dut k r = Finset.univ) :
    bigSep ((Rd (F := F) m ρ).duties (cell k c) r \ ∅) (fun t => (Rd (F := F) m ρ).payload (cell k c) r t)
      = iprop(pay m ρ k c r 0 ∗ pay m ρ k c r 1 ∗ pay m ρ k c r 2) := by
  rw [Finset.sdiff_empty, duties_cell, h, bigSep_univ_eq_bigSepL [0, 1, 2] (by decide) (by decide), bigSepL_cons_cons, bigSepL_cons_cons, bigSepL_singleton,
    payload_cell, payload_cell, payload_cell]
  rfl

/-- The rounds a cell has. -/
def rounds : Kd → ℕ
  | .bar | .ex | .zs | .zr => 1
  | .snd _ _ | .rcv _ _ => 3
  | .cr _ => 5
/-- After its last round a semaphore has no duties. -/
theorem dut_later (k : Kd) (r : ℕ) (h : rounds k ≤ r) : dut k r = ∅ := by
  cases k <;> (dsimp only [rounds] at h; exact if_neg (Nat.not_lt.mpr h))

/-! ## What each device owes, and in which order -/

/-- To whom a payment goes: the right or left neighbour, the partner, oneself. -/
inductive Peer where | R | L | Z | S deriving DecidableEq
/-- The device, as a permutation of the devices, of which `Peer` it is to it. -/
def peer : Peer → Dev nD ≃ Dev nD
  | .R => ⟨rt, lf, lf_rt, rt_lf⟩ | .L => ⟨lf, rt, rt_lf, lf_rt⟩ | .Z => ⟨zp, zp, zp_zp, zp_zp⟩ | .S => Equiv.refl _

/-- A payment: to whom, on which of their semaphores, in which round, which duty of it, at which level. -/
structure Post where
  who : Peer
  k : Kd
  r : ℕ
  t : Fin 3
  ix : ℕ
  deriving DecidableEq

/-- Where direction `d` sends, and whence it receives. -/
abbrev ahead (d : Bool) : Peer := match d with | true => .R | false => .L
@[inherit_doc ahead] abbrev behind (d : Bool) : Peer := match d with | true => .L | false => .R
/-- The peers ahead and behind are the destination and the source. -/
theorem peer_ahead (d : Bool) (c : Dev nD) : peer (ahead d) c = dst d c := by cases d <;> rfl
theorem peer_behind (d : Bool) (c : Dev nD) : peer (behind d) c = src d c := by cases d <;> rfl

/-- Hop `h`'s arrival paid ahead; the credit after hop `h` paid behind; hop `h`'s send paid to oneself. -/
abbrev Post.arrive (d : Bool) (h : ℕ) : Post := ⟨ahead d, .rcv d (sl h), rd h, 0, 3 * h⟩
@[inherit_doc Post.arrive] abbrev Post.free (d : Bool) (h : ℕ) : Post := ⟨behind d, .cr d, h - 1, 0, 3 * h + 1⟩
@[inherit_doc Post.arrive] abbrev Post.sent (d : Bool) (h : ℕ) : Post := ⟨.S, .snd d (sl (h + 1)), rd h, 0, 0⟩

/-- The payments of a device to others, in the order it makes them. -/
abbrev dues : List Post :=
  [⟨.L, .bar, 0, 0, 1⟩, ⟨.R, .bar, 0, 1, 1⟩, ⟨.Z, .bar, 0, 2, 1⟩, ⟨.Z, .zr, 0, 0, 2⟩,
   .arrive true 1, .arrive false 1, .free true 1, .free false 1,
   .arrive true 2, .arrive false 2, .free true 2, .free false 2,
   .arrive true 3, .arrive false 3, .free true 3, .free false 3,
   .arrive true 4, .arrive false 4, .free true 4, .free false 4,
   .arrive true 5, .arrive false 5, .free true 5, .free false 5,
   .arrive true 6, .arrive false 6,
   ⟨.L, .ex, 0, 0, 40⟩, ⟨.R, .ex, 0, 1, 40⟩, ⟨.Z, .ex, 0, 2, 40⟩]

/-- The payments of a device to itself: its transfers' send semaphores. -/
abbrev selfs : List Post :=
  [⟨.S, .zs, 0, 0, 0⟩, .sent true 1, .sent true 2, .sent true 3, .sent true 4, .sent true 5, .sent true 6,
   .sent false 1, .sent false 2, .sent false 3, .sent false 4, .sent false 5, .sent false 6]

/-- A payment of device `c`'s as the ledger has it. -/
def Post.tal (c : Dev nD) (p : Post) : TalkSites.Pay nD τ sig := (cell p.k (peer p.who c), p.ix, amt p.k)

/-- What device `c` still owes of the payments `l`. -/
def owed (l : List Post) (c : Dev nD) : CellTallies nD τ sig ℕ := TalkSites.tallyL (l.map (Post.tal c))

/-- What a list of duties owes is its head's and its tail's. -/
theorem owed_cons (p : Post) (l : List Post) (c : Dev nD) : owed (p :: l) c = owed l c + tallyAt (cell p.k (peer p.who c)) p.ix (amt p.k) :=
  add_comm _ _

/-- Levels below this bound. -/
abbrev LN : ℕ := 41
/-- The levels' domain, and the levels. -/
abbrev L : GSem nD τ sig → Finset ℕ := SiteBlocks.L LN
abbrev lv : GSem nD τ sig → ℕ → ℕ := SiteBlocks.lv

/-- A device may wait at a level below all that it still owes. -/
theorem may_wait (i : ℕ) (l : List Post) (h : i < LN ∧ ∀ p ∈ l, i < p.ix ∧ p.ix < LN) (c : Dev nD) (sm : SemLoc sig) :
    (levAts L lv : sProp 𝕄) ⊢ MayWait (c : Thread nD τ) sm i (owed l c) :=
  SiteBlocks.mayWait_of h.1 c sm _ fun g k hg => by
    obtain ⟨x, hx, rfl, rfl⟩ := TalkSites.tallyL_pos hg
    obtain ⟨p, hp, rfl⟩ := List.mem_map.mp hx
    exact ⟨SiteBlocks.mem_L' rfl (h.2 p hp).2, (h.2 p hp).1⟩

end Cert.KernelIdeal.Exchange
-- ==== Proof.Steps.lean ====
/-
# The steps of the exchange

Each remote operation of the kernel as one rule at a symbolic device: a signal and a transfer pay their duties, a wait
takes a round's payload. All are stated over the payments' list, so that the body's proof names a payment and no more.
-/
module

public import proofs.«01_k».proof.Proof.Protocol

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- No loop's variants. -/
abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

variable (K : Dev nD × Kd → ℕ)

/-- Every cell's invariant, and that every cell has come to round 0. -/
def recs : sProp 𝕄 :=
  iprop((bigSep Finset.univ fun ck : Dev nD × Kd => cellInv ER (Rd m ρ) (K ck) (cell ck.2 ck.1))
    ∗ (bigSep Finset.univ fun ck : Dev nD × Kd => reached ER (cell ck.2 ck.1) 0) ∗ levAts L lv)

/-- The records are kept for ever. -/
instance recs_persistent : BI.Persistent (recs m ρ K) := by unfold recs; infer_instance

/-- One of a product's parts. -/
theorem bigSep_out {I : Type} [DecidableEq I] {s : Finset I} {i : I} (h : i ∈ s) {Φ : I → sProp 𝕄} : (bigSep s Φ : sProp 𝕄) ⊢ Φ i :=
  bigSep_elim h

/-- A cell's record, its first round and the levels, out of all the records. -/
theorem recs_inv (k : Kd) (c : Dev nD) : recs m ρ K ⊢ cellInv ER (Rd m ρ) (K (c, k)) (cell k c) := by
  unfold recs
  iintro ⟨H, -, -⟩
  iapply (bigSep_out (Finset.mem_univ (c, k)) (Φ := fun ck : Dev nD × Kd => cellInv ER (Rd m ρ) (K ck) (cell ck.2 ck.1))) $$ H

theorem recs_reached (k : Kd) (c : Dev nD) : recs m ρ K ⊢ reached ER (cell k c) 0 := by
  unfold recs
  iintro ⟨-, H, -⟩
  iapply (bigSep_out (Finset.mem_univ (c, k)) (Φ := fun ck : Dev nD × Kd => (reached ER (cell ck.2 ck.1) 0 : sProp 𝕄))) $$ H

theorem recs_lev : recs m ρ K ⊢ levAts L lv := by
  unfold recs
  iintro ⟨-, -, H⟩
  iexact H

/-- What device `c` still owes, whatever it has waited on. -/
def Owes (l : List Post) (c : Dev nD) : sProp 𝕄 := iprop(∃ W, owes (c : Thread nD τ) (owed l c) W)

/-- The token of a payment of device `c`'s. -/
def tok (p : Post) (c : Dev nD) : sProp 𝕄 := dutyTok ER (cell p.k (peer p.who c)) p.r p.t

/-- Device `c` has come to round `r` of its semaphore of a kind, nothing of it taken. -/
def posn (k : Kd) (c : Dev nD) (r : ℕ) : sProp 𝕄 := iprop(atPos ER (cell k c) r ∅ 0 ∗ reached ER (cell k c) r)

/-- A SIGNAL pays the next payment of the list. -/
theorem wp_pay (c n : Dev nD) (p : Post) (l : List Post) (hn : n = peer p.who c) {sem : Sem sig} {k' : ℕ} (hs : semOf p.k = .reg sem)
    (hk : amt p.k = k') (ht : p.t ∈ dut p.k p.r) {α : Type} {Q : α → sProp 𝕄} {k : PUnit → Prog (TpuEff nD τ sig (Elt F) Λ₀ .tc) α} :
    iprop(recs m ρ K ∗ Owes (F := F) (p :: l) c ∗ tok (F := F) p c ∗ pay m ρ p.k n p.r p.t ∗ reached ER (cell p.k n) p.r)
      ⊢ iprop((Owes (F := F) l c -∗ WP c (k ⟨⟩) Q) -∗ WP c (.op (.semSignal (n : Thread nD τ) sem k') k) Q) := by
  subst hn
  unfold Owes tok
  have hc : (((peer p.who c : Dev nD) : Thread nD τ), SemLoc.reg sem) = cell p.k (peer p.who c) := by rw [← hs]
  iintro ⟨#HR, ⟨%W, HO⟩, Ht, Hp, #Hr⟩ Hk
  ihave HI := recs_inv m ρ K p.k (peer p.who c) $$ HR
  iapply (Rounds.wp_signal 𝒱₀ ER (Rd m ρ) (c : Thread nD τ) none (dst := (peer p.who c : Thread nD τ)) (sem := sem) (r := p.r) (d := p.t) (κ := K (peer p.who c, p.k))
      (by rw [hc, duties_cell]; exact ht) (by rw [hc, amount_cell]; exact hk) p.ix (owed l c) (O₀ := owed (p :: l) c) (by rw [hc, owed_cons, hk]) (W := W)) $$ [HI HO Ht Hp]
  · rw [hc, payload_cell]
    isplitl [HI]; · iexact HI
    isplitl [HO]; · iexact HO
    isplitl [Ht]; · iexact Ht
    isplitl [Hp]; · iexact Hp
    iexact Hr
  iintro HO
  iapply Hk
  iexists W
  iexact HO

/-- A WAIT for a round of one duty takes its payload. -/
theorem wp_take (c : Dev nD) (kd : Kd) (r i : ℕ) (l : List Post) {w : TpuEff nD τ sig (Elt F) Λ₀ .tc PUnit} {sm : SemLoc sig} {k' : ℕ}
    (hw : ∀ R : PUnit → sProp 𝕄, wpE (defs₀ (F := F)) 𝒱₀ (c : Thread nD τ) none Set.univ w R = waitSpec (c : Thread nD τ) Set.univ sm k' R)
    (hs : semOf kd = sm) (hk : amt kd = k') (ht : dut kd r = {0}) (hi : i < LN ∧ ∀ p ∈ l, i < p.ix ∧ p.ix < LN)
    {α : Type} {Q : α → sProp 𝕄} {k : PUnit → Prog (TpuEff nD τ sig (Elt F) Λ₀ .tc) α} :
    iprop(recs m ρ K ∗ cred (tallyAt (cell kd c) i (amt kd)) ∗ Owes (F := F) l c ∗ posn (F := F) kd c r)
      ⊢ iprop((iprop(Owes (F := F) l c ∗ posn (F := F) kd c (r + 1) ∗ pay m ρ kd c r 0) -∗ WP c (k ⟨⟩) Q) -∗ WP c (.op w k) Q) := by
  subst hs hk
  unfold Owes posn
  iintro ⟨#HR, Hc, ⟨%W, HO⟩, Hat, -⟩ Hk
  ihave HI := recs_inv m ρ K kd c $$ HR
  ihave HL := recs_lev m ρ K $$ HR
  ihave HM := may_wait (F := F) i l hi c (semOf kd) $$ HL
  iapply (Rounds.wp_wait_rest_token 𝒱₀ ER (Rd m ρ) (c : Thread nD τ) none (κ := K (c, kd)) hw (Set.mem_univ _) i (O := owed l c) (W := W) (R := r) (m := 0) (T := ∅)
      (by rw [Nat.zero_add, expect_one m ρ kd c r ht])) $$ [HI Hc HO HM Hat]
  · isplitl [HI]; · iexact HI
    isplitl [Hc]; · iexact Hc
    isplitl [HO]; · iexact HO
    isplitl [HM]; · iexact HM
    iexact Hat
  rw [rest_one m ρ kd c r ht]
  iintro ⟨HO, Hat, Hr, Hp⟩
  iapply Hk
  isplitl [HO]; · iexists _; iexact HO
  isplitl [Hat Hr]
  · isplitl [Hat]; · iexact Hat
    iexact Hr
  iexact Hp

/-- A WAIT for the one round of all three duties takes their payloads. -/
theorem wp_take3 (c : Dev nD) (kd : Kd) (i : ℕ) (l : List Post) {w : TpuEff nD τ sig (Elt F) Λ₀ .tc PUnit} {sm : SemLoc sig} {k' : ℕ}
    (hw : ∀ R : PUnit → sProp 𝕄, wpE (defs₀ (F := F)) 𝒱₀ (c : Thread nD τ) none Set.univ w R = waitSpec (c : Thread nD τ) Set.univ sm k' R)
    (hs : semOf kd = sm) (hk : 3 * amt kd = k') (ht : dut kd 0 = Finset.univ) (hi : i < LN ∧ ∀ p ∈ l, i < p.ix ∧ p.ix < LN)
    {α : Type} {Q : α → sProp 𝕄} {k : PUnit → Prog (TpuEff nD τ sig (Elt F) Λ₀ .tc) α} :
    iprop(recs m ρ K ∗ (cred (tallyAt (cell kd c) i (amt kd)) ∗ cred (tallyAt (cell kd c) i (amt kd)) ∗ cred (tallyAt (cell kd c) i (amt kd)))
        ∗ Owes (F := F) l c ∗ posn (F := F) kd c 0)
      ⊢ iprop((iprop(Owes (F := F) l c ∗ posn (F := F) kd c 1 ∗ pay m ρ kd c 0 0 ∗ pay m ρ kd c 0 1 ∗ pay m ρ kd c 0 2) -∗ WP c (k ⟨⟩) Q)
        -∗ WP c (.op w k) Q) := by
  subst hs hk
  unfold Owes posn
  iintro ⟨#HR, ⟨Hc1, Hc2, Hc3⟩, ⟨%W, HO⟩, Hat, -⟩ Hk
  ihave HI := recs_inv m ρ K kd c $$ HR
  ihave HL := recs_lev m ρ K $$ HR
  ihave HM := may_wait (F := F) i l hi c (semOf kd) $$ HL
  have e : (tallyAt (cell kd c) i (3 * amt kd) : CellTallies nD τ sig ℕ)
      = tallyAt (cell kd c) i (amt kd) + (tallyAt (cell kd c) i (amt kd) + tallyAt (cell kd c) i (amt kd)) := by
    rw [tallyAt_add, tallyAt_add]; congr 1; omega
  ihave Hc := (show iprop(cred (tallyAt (cell kd c) i (amt kd)) ∗ cred (tallyAt (cell kd c) i (amt kd)) ∗ cred (tallyAt (cell kd c) i (amt kd)))
      ⊢ (cred (tallyAt (cell kd c) i (3 * amt kd)) : sProp 𝕄) from by
    rw [e]; exact (sep_mono_right (cred_add _ _).2).trans (cred_add _ _).2) $$ [Hc1 Hc2 Hc3]
  · isplitl [Hc1]; · iexact Hc1
    isplitl [Hc2]; · iexact Hc2
    iexact Hc3
  iapply (Rounds.wp_wait_rest_token 𝒱₀ ER (Rd m ρ) (c : Thread nD τ) none (κ := K (c, kd)) hw (Set.mem_univ _) i (O := owed l c) (W := W) (R := 0) (m := 0) (T := ∅)
      (by rw [Nat.zero_add, expect_three m ρ kd c 0 ht])) $$ [HI Hc HO HM Hat]
  · isplitl [HI]; · iexact HI
    isplitl [Hc]; · iexact Hc
    isplitl [HO]; · iexact HO
    isplitl [HM]; · iexact HM
    iexact Hat
  rw [rest_three m ρ kd c 0 ht]
  iintro ⟨HO, Hat, Hr, Hp⟩
  iapply Hk
  isplitl [HO]; · iexists _; iexact HO
  isplitl [Hat Hr]
  · isplitl [Hat]; · iexact Hat
    iexact Hr
  iexact Hp

/-- A TRANSFER pays the next payment of the list and one to the sender itself; a rider goes with what lands. -/
theorem wp_send (c n : Dev nD) (p s : Post) (l : List Post) (hn : n = peer p.who c) (hw : s.who = .S) {sp sp' : Space} {sh : Shape} {e : EltTy}
    {from' : Memref sig .tc sp sh e} {into : Memref sig .tc sp' sh e} {hsc : into.view.ref.isScScratch = false} {sS sem : SemLoc sig}
    {hsrc : from'.view.WordExact} {hdst : into.view.WordExact} {hsem : DmaTarget.Typed sp sem (.remote (n : Thread nD τ) into sS hsc)}
    (hS : semOf s.k = sS) (hD : semOf p.k = sem) (hN : into.view.amount sem = amt p.k) (hN' : amt s.k = amt p.k)
    (ht : s.t ∈ dut s.k s.r) (ht' : p.t ∈ dut p.k p.r) (q : PosShare TreeShare) (X : sh.Idx → Elt F e) (G : sProp 𝕄)
    (h1 : owns (c : Thread nD τ) from' q X ⊢ pay m ρ s.k c s.r s.t)
    (h2 : iprop(owns (n : Thread nD τ) into fullShare X ∗ G) ⊢ pay m ρ p.k n p.r p.t)
    {α : Type} {Q : α → sProp 𝕄} {k : PUnit → Prog (TpuEff nD τ sig (Elt F) Λ₀ .tc) α} :
    iprop(recs m ρ K ∗ owns (c : Thread nD τ) from' q X ∗ (∃ Y, owns (n : Thread nD τ) into fullShare Y) ∗ G ∗ Owes (F := F) (p :: l) c
        ∗ tok (F := F) s c ∗ reached ER (cell s.k c) s.r ∗ tok (F := F) p c ∗ reached ER (cell p.k n) p.r)
      ⊢ iprop((iprop(cred (tallyAt (cell s.k c) s.ix (amt s.k)) ∗ Owes (F := F) l c) -∗ WP c (k ⟨⟩) Q)
          -∗ WP c (.op (.enqueueDma from' (.remote (n : Thread nD τ) into sS hsc) sem hsrc hdst hsem) k) Q) := by
  subst hn hS hD
  obtain ⟨sw, sk, sr, st, six⟩ := s
  dsimp only at hw ht hN' h1 ⊢
  subst hw
  unfold Owes tok owns
  iintro ⟨#HR, ⟨%f, %hf, Hf⟩, ⟨%Y, %g, %hg, Hg⟩, HG, ⟨%W, HO⟩, Hs, #Hsr, Ht, #Htr⟩ Hk
  subst hf
  ihave HI1 := recs_inv m ρ K sk c $$ HR
  ihave HI2 := recs_inv m ρ K p.k (peer p.who c) $$ HR
  iapply (Rounds.wp_send_pointsTo_with 𝒱₀ ER (Rd m ρ) (c : Thread nD τ) none (κ₁ := K (c, sk)) (κ₂ := K (peer p.who c, p.k)) (r₁ := sr) (r₂ := p.r) (d₁ := st) (d₂ := p.t)
      (fs := f) (fd := g) (F := G) (q := q)
      (by rw [duties_cell]; exact ht) (by rw [duties_cell]; exact ht') p.ix six (amt p.k) hN (by rw [amount_cell]; exact hN') (amount_cell m ρ p.k _ _ _)
      (owed l c) (owed_cons p l c) (W := W)
      (O₀ := owed (p :: l) c) (by
        rw [payload_cell]; refine .trans ?_ h1
        unfold owns; iintro H; iexists f; isplitr; · ipureintro; exact rfl
        iexact H)
      (by
        rw [payload_cell]; refine .trans ?_ h2
        unfold owns; iintro ⟨H, HG⟩
        isplitl [H]
        · iexists _; isplitr
          · ipureintro; exact View.read_write_univ (v := into.view) g _
          · iexact H
        · iexact HG)) $$ [HI1 HI2 Hf Hg HG HO Hs Ht]
  · isplitl [HI1]; · iexact HI1
    isplitl [HI2]; · iexact HI2
    isplitl [Hf]; · iexact Hf
    isplitl [Hg HG]
    · isplitl [Hg]; · iexact Hg
      iexact HG
    isplitl [HO]; · iexact HO
    isplitl [Hs]; · iexact Hs
    isplitr; · iexact Hsr
    isplitl [Ht]; · iexact Ht
    iexact Htr
  rw [hN']
  iintro ⟨Hc, HO⟩
  iapply Hk
  isplitl [Hc]; · iexact Hc
  iexists W; iexact HO

end Cert.KernelIdeal.Exchange
-- ==== Proof.Slots.lean ====
/-
# Loads and stores of the exchange's buffers

The ring buffers are owned slot by slot, the partner's block by halves. A load or store of a part goes through the
ownership of that part; here are the rules for it, and how a buffer is its parts.
-/
module

public import proofs.«01_k».proof.Proof.Steps

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (c : Dev nD)

/-! ## Any memref of the core's memory -/

section Any

variable {s : Shape} {e : EltTy} (M : Memref sig .tc .vmem s e) (q : PosShare TreeShare)

/-- A LOAD of a part of an owned memref reads the contents there. -/
theorem load_part {r : Rect s} {hl : M.view.LoadsAt r.toLoadRect} (X : s.Idx → Elt F e)
    {α : Type} {Q : α → sProp 𝕄} {k : (r.shape.Idx → Elt F e) → Prog (TpuEff nD τ sig (Elt F) Λ₀ .tc) α} :
    (owns (c : Thread nD τ) M q X : sProp 𝕄)
      ⊢ iprop((owns (c : Thread nD τ) M q X -∗ WP c (k fun j => X (r.emb j)) Q) -∗ WP c (.op (.load M r.toLoadRect hl) k) Q) := by
  unfold owns
  iintro ⟨%f, %hf, H⟩ Hk
  subst hf
  iapply (wp_load 𝒱₀ (c : Thread nD τ) none Set.univ (m := M) (r := r.toLoadRect) (S := M.view.set) (f := f) (View.setOn_subset_set _ _)) $$ H
  iintro H
  iapply Hk
  iexists f
  isplitr; · ipureintro; exact rfl
  iexact H

/-- A LOAD of exactly the part owned. -/
theorem load_own {r : Rect s} {hr : ∀ a, r.stride a = 1} {hl : M.view.LoadsAt r.toLoadRect} (X : r.shape.Idx → Elt F e)
    {α : Type} {Q : α → sProp 𝕄} {k : (r.shape.Idx → Elt F e) → Prog (TpuEff nD τ sig (Elt F) Λ₀ .tc) α} :
    (owns (c : Thread nD τ) (M.slice r hr) q X : sProp 𝕄)
      ⊢ iprop((owns (c : Thread nD τ) (M.slice r hr) q X -∗ WP c (k X) Q) -∗ WP c (.op (.load M r.toLoadRect hl) k) Q) := by
  unfold owns
  iintro ⟨%f, %hf, H⟩ Hk
  subst hf
  iapply (wp_load_rect 𝒱₀ (c : Thread nD τ) none Set.univ (m := M) (r := r) (S := (M.access r).set) (f := f) subset_rfl) $$ H
  iintro H
  iapply Hk
  iexists f
  isplitr; · ipureintro; exact rfl
  iexact H

/-- A STORE of exactly the part owned. -/
theorem store_own {r : Rect s} {hr : ∀ a, r.stride a = 1} {w : r.shape.Idx → Elt F e} {hx : (M.access r).Stores Finset.univ}
    {hm : (Finset.univ : Finset r.shape.Idx) = Finset.univ ∨ ∀ a, r.stride a = 1} (X : r.shape.Idx → Elt F e)
    {α : Type} {Q : α → sProp 𝕄} {k : PUnit → Prog (TpuEff nD τ sig (Elt F) Λ₀ .tc) α} :
    (owns (c : Thread nD τ) (M.slice r hr) fullShare X : sProp 𝕄)
      ⊢ iprop((owns (c : Thread nD τ) (M.slice r hr) fullShare w -∗ WP c (k ⟨⟩) Q) -∗ WP c (.op (.store M r w Finset.univ hx hm) k) Q) := by
  unfold owns
  iintro ⟨%f, -, H⟩ Hk
  iapply (wp_store 𝒱₀ (c : Thread nD τ) none Set.univ (m := M) (r := r) (w := w) (Mk := Finset.univ) (S := (M.access r).set) (f := f) subset_rfl) $$ H
  iintro H
  iapply Hk
  iexists _
  isplitr
  rotate_left
  · iexact H
  · ipureintro; exact View.read_write_univ (v := M.access r) f w

end Any

/-! ## Whole buffers -/

section Whole

variable (b : Ref sig .tc) (hb : b.space = .vmem)

/-- A literal offset of zeros. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The part of a shape at no offset and of its sizes is all of it. -/
theorem emb_zero {s : Shape} {off : Fin s.rank → Nat} (h : off = fun _ => 0) (inb : ∀ a, off a + s.size a ≤ s.size a) (j : s.Idx) :
    (Rect.unit off s.size inb).emb j = j := by
  subst h; exact Rect.emb_whole_apply s j

variable {s : Shape} {e : EltTy} (M : Memref sig .tc .vmem s e) {off : Fin s.rank → Nat} (hz : off = fun _ => 0)

include hz in
/-- A LOAD of a whole owned memref. -/
theorem load_all (q : PosShare TreeShare) {inb : ∀ a, off a + s.size a ≤ s.size a} {hl : M.view.LoadsAt (Rect.unit off s.size inb).toLoadRect} (X : s.Idx → Elt F e)
    {α : Type} {Q : α → sProp 𝕄} {k : (s.Idx → Elt F e) → Prog (TpuEff nD τ sig (Elt F) Λ₀ .tc) α} :
    (owns (c : Thread nD τ) M q X : sProp 𝕄)
      ⊢ iprop((owns (c : Thread nD τ) M q X -∗ WP c (k X) Q) -∗ WP c (.op (.load M (Rect.unit off s.size inb).toLoadRect hl) k) Q) := by
  have h := load_part (F := F) c M q (r := Rect.unit off s.size inb) (hl := hl) X (Q := Q) (k := k)
  rwa [show (fun j => X ((Rect.unit off s.size inb).emb j)) = X from funext fun j => congrArg X (emb_zero hz inb j)] at h

include hz in
/-- A STORE over a whole owned memref. -/
theorem store_all {inb : ∀ a, off a + s.size a ≤ s.size a} {w : s.Idx → Elt F e} {hx : (M.access (Rect.unit off s.size inb)).Stores Finset.univ}
    {hm : (Finset.univ : Finset (Rect.unit off s.size inb).shape.Idx) = Finset.univ ∨ ∀ a, (Rect.unit off s.size inb).stride a = 1} (X : s.Idx → Elt F e)
    {α : Type} {Q : α → sProp 𝕄} {k : PUnit → Prog (TpuEff nD τ sig (Elt F) Λ₀ .tc) α} :
    (owns (c : Thread nD τ) M fullShare X : sProp 𝕄)
      ⊢ iprop((owns (c : Thread nD τ) M fullShare w -∗ WP c (k ⟨⟩) Q) -∗ WP c (.op (.store M (Rect.unit off s.size inb) w Finset.univ hx hm) k) Q) := by
  unfold owns
  iintro ⟨%f, -, H⟩ Hk
  iapply (wp_store 𝒱₀ (c : Thread nD τ) none Set.univ (m := M) (r := Rect.unit off s.size inb) (w := w) (Mk := Finset.univ) (S := M.view.set) (f := f)
    (View.set_slice_subset _ _)) $$ H
  iintro H
  iapply Hk
  iexists _
  isplitr
  rotate_left
  · iexact H
  · ipureintro
    funext j
    have h := congrFun (View.read_write_univ (Val := Elt F) (v := M.access (Rect.unit off s.size inb)) f w) j
    have h' : M.view.read (Elt F) _ ((Rect.unit off s.size inb).emb j) = w j := h
    rwa [emb_zero hz inb j] at h'

end Whole

/-! ## The ring buffers' slots -/

/-- Leaving a slot undoes entering it. -/
theorem dn_up (w : Vec F S2x512x1024 .bf16) : dn (up w) = w := funext fun x => by unfold dn up; rw [Equiv.symm_apply_apply]
theorem up_dn (w : Vec F S1x2x512x1024 .bf16) : up (dn w) = w := funext fun x => congrArg w (Equiv.apply_symm_apply _ x)

/-- A slot without its axis is the slot. -/
theorem owns_dn (M : Memref sig .tc .vmem S1x2x512x1024 .bf16) (q : PosShare TreeShare) (w : Vec F S1x2x512x1024 .bf16) :
    (owns (c : Thread nD τ) (M.squeeze S2x512x1024 squeezes_S1x2x512x1024_S2x512x1024) q (dn w) : sProp 𝕄) = owns (c : Thread nD τ) M q w := by
  unfold owns
  have h (f : M.view.ty.Contents (Elt F)) : ((M.squeeze S2x512x1024 squeezes_S1x2x512x1024_S2x512x1024).view.read (Elt F) f = dn w) = (M.view.read (Elt F) f = w) :=
    propext ⟨fun h => by
      have h' : dn (M.view.read (Elt F) f) = dn w := h
      rw [← up_dn (M.view.read (Elt F) f), h', up_dn], fun h => congrArg dn h⟩
  simp only [h]
  rw [show (M.squeeze S2x512x1024 squeezes_S1x2x512x1024_S2x512x1024).view.set = M.view.set from View.set_reshape _ _]

/-- A slot as the transfers name it, as the loads and stores do. -/
theorem owns_slot (d : Bool) (s : Fin 2) (q : PosShare TreeShare) (X : Vec F S2x512x1024 .bf16) :
    (owns (c : Thread nD τ) (slotM d s) q X : sProp 𝕄) = owns (c : Thread nD τ) ((comm d).slice (slotR s) (fun _ => rfl)) q (up X) := by
  rw [← owns_dn, dn_up]

/-- A LOAD of a slot. -/
theorem load_slot (d : Bool) (s : Fin 2) (q : PosShare TreeShare) {hl : (comm d).view.LoadsAt (slotR s).toLoadRect} (X : Vec F S2x512x1024 .bf16)
    {α : Type} {Q : α → sProp 𝕄} {k : (S1x2x512x1024.Idx → Elt F .bf16) → Prog (TpuEff nD τ sig (Elt F) Λ₀ .tc) α} :
    (owns (c : Thread nD τ) (slotM d s) q X : sProp 𝕄)
      ⊢ iprop((owns (c : Thread nD τ) (slotM d s) q X -∗ WP c (k (up X)) Q) -∗ WP c (.op (.load (comm d) (slotR s).toLoadRect hl) k) Q) := by
  rw [owns_slot]
  exact load_own c (comm d) q (r := slotR s) (up X)

/-- A STORE of a slot. -/
theorem store_slot (d : Bool) (s : Fin 2) {w : S1x2x512x1024.Idx → Elt F .bf16} {hx : ((comm d).access (slotR s)).Stores Finset.univ}
    {hm : (Finset.univ : Finset (slotR s).shape.Idx) = Finset.univ ∨ ∀ a, (slotR s).stride a = 1} (X : Vec F S2x512x1024 .bf16)
    {α : Type} {Q : α → sProp 𝕄} {k : PUnit → Prog (TpuEff nD τ sig (Elt F) Λ₀ .tc) α} :
    (owns (c : Thread nD τ) (slotM d s) fullShare X : sProp 𝕄)
      ⊢ iprop((owns (c : Thread nD τ) (slotM d s) fullShare (dn w) -∗ WP c (k ⟨⟩) Q) -∗ WP c (.op (.store (comm d) (slotR s) w Finset.univ hx hm) k) Q) := by
  rw [owns_slot, owns_slot, up_dn]
  exact store_own c (comm d) (r := slotR s) (hx := hx) (hm := hm) (up X)

/-! ## A buffer is its parts -/

/-- The two slots, and the two halves, are apart and make up the buffer. -/
theorem slotR_disjoint : ∀ s s' : Fin 2, s ≠ s' → Disjoint (slotR s).set (slotR s').set := by
  have h : Disjoint (slotR 0).set (slotR 1).set := Rect.unit_disjoint (s := S2x2x512x1024) (0 : Fin 4) (Or.inl (Nat.le_refl 1))
  intro s s' hne
  fin_cases s <;> fin_cases s'
  · exact absurd rfl hne
  · exact h
  · exact h.symm
  · exact absurd rfl hne

theorem slotR_cover : (Finset.univ : Finset (Fin 2)).biUnion (fun s => (slotR s).set) = Finset.univ := by
  refine Finset.eq_univ_of_forall fun i => Finset.mem_biUnion.mpr ⟨⟨(i (0 : Fin 4)).val, (i (0 : Fin 4)).isLt⟩, Finset.mem_univ _, ?_⟩
  refine Rect.mem_set_unit.mpr fun a => ?_
  have := (i a).isLt
  fin_cases a
  · exact ⟨Nat.le_refl _, Nat.lt_succ_self _⟩
  all_goals exact ⟨Nat.zero_le _, (Nat.zero_add _).symm ▸ this⟩

theorem halfR_disjoint : ∀ d d' : Bool, d ≠ d' → Disjoint (halfR d).set (halfR d').set := by
  have h : Disjoint (halfR true).set (halfR false).set := Rect.unit_disjoint (s := S4x512x1024) (0 : Fin 3) (Or.inl (Nat.le_refl 2))
  intro d d' hne
  cases d <;> cases d'
  · exact absurd rfl hne
  · exact h.symm
  · exact h
  · exact absurd rfl hne

theorem halfR_cover : (Finset.univ : Finset Bool).biUnion (fun d => (halfR d).set) = Finset.univ := by
  refine Finset.eq_univ_of_forall fun i => Finset.mem_biUnion.mpr ⟨decide ((i (0 : Fin 3)).val < 2), Finset.mem_univ _, ?_⟩
  refine Rect.mem_set_unit.mpr fun a => ?_
  have := (i a).isLt
  fin_cases a
  · have h4 : (i (0 : Fin 3)).val < 4 := this
    show zoff _ ≤ (i (0 : Fin 3)).val ∧ (i (0 : Fin 3)).val < zoff _ + 2
    by_cases h : (i (0 : Fin 3)).val < 2
    · rw [decide_eq_true h]; exact ⟨Nat.zero_le _, h⟩
    · rw [decide_eq_false h]; exact ⟨Nat.le_of_not_lt h, h4⟩
  all_goals exact ⟨Nat.zero_le _, (Nat.zero_add _).symm ▸ this⟩

/-- A ring buffer owned is its two slots owned, whatever they hold. -/
theorem slots_of (d : Bool) (X : Vec F S2x2x512x1024 .bf16) : (owns (c : Thread nD τ) (comm d) fullShare X : sProp 𝕄)
    ⊢ iprop((∃ Y, owns (c : Thread nD τ) (slotM d 0) fullShare Y) ∗ ∃ Y, owns (c : Thread nD τ) (slotM d 1) fullShare Y) := by
  refine (owns_rects (c : Thread nD τ) (comm d) fullShare slotR (fun _ _ => rfl) slotR_disjoint slotR_cover X).trans ?_
  rw [bigSep_univ_eq_bigSepL [0, 1] (by decide) (by decide), bigSepL_cons_cons, bigSepL_singleton, ← owns_dn, ← owns_dn]
  show iprop(_ ∗ _) ⊢ _
  iintro ⟨H0, H1⟩
  isplitl [H0]; · iexists _; iexact H0
  iexists _; iexact H1

/-- and back. -/
theorem of_slots (d : Bool) : iprop((∃ Y, owns (c : Thread nD τ) (slotM d 0) fullShare Y) ∗ ∃ Y, owns (c : Thread nD τ) (slotM d 1) fullShare Y)
    ⊢ (iprop(∃ X, owns (c : Thread nD τ) (comm d) fullShare X) : sProp 𝕄) := by
  refine .trans ?_ ((ownsSat_of_rects (c : Thread nD τ) (comm d) fullShare slotR (fun _ _ => rfl) slotR_disjoint slotR_cover (fun _ _ => True)).trans
    (ownsSat_any (c : Thread nD τ) (comm d) fullShare))
  rw [bigSep_univ_eq_bigSepL [0, 1] (by decide) (by decide), bigSepL_cons_cons, bigSepL_singleton]
  show _ ⊢ iprop(_ ∗ _)
  iintro ⟨⟨%Y0, H0⟩, %Y1, H1⟩
  have h (s : Fin 2) (Y : Vec F S2x512x1024 .bf16) : (owns (c : Thread nD τ) (slotM d s) fullShare Y : sProp 𝕄)
      ⊢ ownsSat (c : Thread nD τ) ((comm d).slice (slotR s) (fun _ => rfl)) fullShare (fun _ => True) := by
    rw [owns_slot]; exact ownsSat_intro (c : Thread nD τ) ((comm d).slice (slotR s) (fun _ => rfl)) fullShare (X := up Y) trivial
  isplitl [H0]
  · iapply (h 0 Y0) $$ H0
  · iapply (h 1 Y1) $$ H1

/-- The partner's block owned is its two halves owned. -/
theorem halves_of (q : PosShare TreeShare) (X : Vec F S4x512x1024 .bf16) : (owns (c : Thread nD τ) zbM q X : sProp 𝕄)
    ⊢ iprop(owns (c : Thread nD τ) (zhM true) q (half true X) ∗ owns (c : Thread nD τ) (zhM false) q (half false X)) := by
  refine (owns_rects (c : Thread nD τ) zbM q halfR (fun _ _ => rfl) halfR_disjoint halfR_cover X).trans ?_
  rw [bigSep_univ_eq_bigSepL [true, false] (by decide) (by decide), bigSepL_cons_cons, bigSepL_singleton]
  exact .rfl

/-- and back. -/
theorem of_halves (q : PosShare TreeShare) (X : Vec F S4x512x1024 .bf16) :
    iprop(owns (c : Thread nD τ) (zhM true) q (half true X) ∗ owns (c : Thread nD τ) (zhM false) q (half false X)) ⊢ (owns (c : Thread nD τ) zbM q X : sProp 𝕄) := by
  refine .trans ?_ (owns_of_rects (c : Thread nD τ) zbM q halfR (fun _ _ => rfl) halfR_disjoint halfR_cover X)
  rw [bigSep_univ_eq_bigSepL [true, false] (by decide) (by decide), bigSepL_cons_cons, bigSepL_singleton]
  exact .rfl

end Cert.KernelIdeal.Exchange
-- ==== Proof.Lanes.lean ====
/-
# The two lanes of the ring

One direction of the ring, hop after hop, at a symbolic device and a symbolic hop: send, wait for the send, wait for the
arrival, free the other slot, wait for the credit of the next hop. What a device holds of a lane between these steps is
named here once; every step of either direction is one of the five rules below.
-/
module

public import proofs.«01_k».proof.Proof.Slots

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Kd → ℕ)

/-! ## What a hop sends, and the payloads by hop -/

/-- The part hop `h` of direction `d` sends from: the slot of the hop before; at the fourth hop the half of the partner's block. -/
def fromM (d : Bool) (h : ℕ) : Memref sig .tc .vmem S2x512x1024 .bf16 := if h = 4 then zhM d else slotM d (sl (h + 1))
/-- What it sends. -/
def sentC (d : Bool) (h : ℕ) (c : Dev nD) : Vec F S2x512x1024 .bf16 := if h = 4 then half d (zC m ρ (zp c)) else con m ρ d (h - 1) c

/-- What lands at the next device after a hop is what was sent. -/
theorem con_step (d : Bool) (h : ℕ) (h1 : 1 ≤ h) (c : Dev nD) : con m ρ d h (dst d c) = sentC m ρ d h c := by
  obtain ⟨h, rfl⟩ := Nat.exists_eq_add_of_le' h1
  show (if h + 1 = 4 then half d (zC m ρ (zp (src d (dst d c)))) else con m ρ d h (src d (dst d c))) = _
  rw [src_dst]; rfl

/-- A slot is used again two hops later. -/
theorem sl_two (h : ℕ) : sl (h + 1 + 1) = sl h := Fin.ext (by show (h + 1 + 1) % 2 = h % 2; omega)
/-- Two hops later its semaphores are one round on. -/
theorem rd_two (h : ℕ) (h1 : 1 ≤ h) : rd (h + 1 + 1) = rd h + 1 := by show (h + 1 + 1 - 1) / 2 = (h - 1) / 2 + 1; omega

/-- What a hop's send semaphore hands back. -/
theorem pay_snd (d : Bool) (h : ℕ) (h1 : 1 ≤ h) (c : Dev nD) (t : Fin 3) :
    pay m ρ (.snd d (sl (h + 1))) c (rd h) t = owns (c : Thread nD τ) (fromM d h) fullShare.left (sentC m ρ d h c) := by
  show lent m ρ d (2 * rd h + (sl (h + 1)).val + 1) (sl (h + 1)) c = _
  rw [show 2 * rd h + (sl (h + 1)).val + 1 = h from by show 2 * ((h - 1) / 2) + (h + 1) % 2 + 1 = h; omega]
  unfold lent fromM sentC
  split <;> rfl

/-- What a hop's receive semaphore hands over. -/
theorem pay_rcv (d : Bool) (h : ℕ) (h1 : 1 ≤ h) (c : Dev nD) (t : Fin 3) :
    pay m ρ (.rcv d (sl h)) c (rd h) t = landed m ρ d h (sl h) c := by
  show landed m ρ d (2 * rd h + 2 - (sl h).val) (sl h) c = _
  rw [show 2 * rd h + 2 - (sl h).val = h from by show 2 * ((h - 1) / 2) + 2 - h % 2 = h; omega]

/-- What a hop's credit hands over. -/
theorem pay_cr (d : Bool) (h : ℕ) (h1 : 1 ≤ h) (c : Dev nD) (t : Fin 3) :
    pay m ρ (.cr d) c (h - 1) t = credit (F := F) d (rd (h + 1)) (sl (h + 1)) (dst d c) := by
  show credit d ((h - 1 + 1) / 2) (sl (h - 1)) (dst d c) = _
  rw [show sl (h - 1) = sl (h + 1) from Fin.ext (by show (h - 1) % 2 = (h + 1) % 2; omega),
    show (h - 1 + 1) / 2 = rd (h + 1) from by show (h - 1 + 1) / 2 = (h + 1 - 1) / 2; omega]

/-! ## What a device holds of a lane -/

/-- From hop `h` on: the tokens of the sends and of the arrivals they pay, and the credits of the arrivals awaited. -/
def ends (d : Bool) (h : ℕ) (c : Dev nD) : sProp 𝕄 :=
  bigSep (Finset.Ico h 7) fun j => iprop(tok (.sent d j) c ∗ tok (.arrive d j) c ∗ cred (tallyAt (cell (.rcv d (sl j)) c) (3 * j) NH))
/-- From hop `h` on: the tokens of the slots freed behind, and the credits of the slots freed ahead. -/
def backs (d : Bool) (h : ℕ) (c : Dev nD) : sProp 𝕄 :=
  bigSep (Finset.Ico h 6) fun j => iprop(tok (.free d j) c ∗ cred (tallyAt (cell (.cr d) c) (3 * j + 1) 1))

/-- The duties of the hops that remain: the next hop's and the rest. -/
theorem ends_step (d : Bool) (h : ℕ) (h6 : h ≤ 6) (c : Dev nD) : (ends d h c : sProp 𝕄)
    = iprop((tok (.sent d h) c ∗ tok (.arrive d h) c ∗ cred (tallyAt (cell (.rcv d (sl h)) c) (3 * h) NH)) ∗ ends d (h + 1) c) := by
  unfold ends
  rw [show Finset.Ico h 7 = insert h (Finset.Ico (h + 1) 7) from by ext x; simp only [Finset.mem_Ico, Finset.mem_insert]; omega]
  exact bigSep_insert (by simp only [Finset.mem_Ico]; omega)
/-- The credits of the hops that remain: the next hop's and the rest. -/
theorem backs_step (d : Bool) (h : ℕ) (h5 : h ≤ 5) (c : Dev nD) : (backs d h c : sProp 𝕄)
    = iprop((tok (.free d h) c ∗ cred (tallyAt (cell (.cr d) c) (3 * h + 1) 1)) ∗ backs d (h + 1) c) := by
  unfold backs
  rw [show Finset.Ico h 6 = insert h (Finset.Ico (h + 1) 6) from by ext x; simp only [Finset.mem_Ico, Finset.mem_insert]; omega]
  exact bigSep_insert (by simp only [Finset.mem_Ico]; omega)

/-- The lane's five positions when hop `h` is next to be sent, its credits taken up to round `r`. -/
def core (d : Bool) (h r : ℕ) (c : Dev nD) : sProp 𝕄 :=
  iprop(posn (.snd d (sl (h + 1))) c (rd h) ∗ posn (.snd d (sl h)) c (rd (h + 1)) ∗ posn (.rcv d (sl h)) c (rd h)
    ∗ posn (.rcv d (sl (h + 1))) c (rd (h + 1)) ∗ posn (.cr d) c r ∗ ends d h c)

/-- Hop `h` may be sent. -/
def lane (d : Bool) (h : ℕ) (c : Dev nD) : sProp 𝕄 := iprop(core d h (h - 1) c ∗ backs d h c)
/-- Hop `h` is under way. -/
def flying (d : Bool) (h : ℕ) (c : Dev nD) : sProp 𝕄 :=
  iprop(cred (tallyAt (cell (.snd d (sl (h + 1))) c) 0 NH) ∗ cred (tallyAt (cell (.rcv d (sl h)) c) (3 * h) NH)
    ∗ (posn (.snd d (sl (h + 1))) c (rd h) ∗ posn (.snd d (sl h)) c (rd (h + 1)) ∗ posn (.rcv d (sl h)) c (rd h)
      ∗ posn (.rcv d (sl (h + 1))) c (rd (h + 1)) ∗ posn (.cr d) c (h - 1)) ∗ ends d (h + 1) c ∗ backs d h c)
/-- Hop `h`'s send is over, its arrival awaited. -/
def sentOff (d : Bool) (h : ℕ) (c : Dev nD) : sProp 𝕄 :=
  iprop(cred (tallyAt (cell (.rcv d (sl h)) c) (3 * h) NH)
    ∗ (posn (.snd d (sl (h + 1))) c (rd h + 1) ∗ posn (.snd d (sl h)) c (rd (h + 1)) ∗ posn (.rcv d (sl h)) c (rd h)
      ∗ posn (.rcv d (sl (h + 1))) c (rd (h + 1)) ∗ posn (.cr d) c (h - 1)) ∗ ends d (h + 1) c ∗ backs d h c)
/-- Hop `h` has arrived. -/
def arrived (d : Bool) (h : ℕ) (c : Dev nD) : sProp 𝕄 := iprop(core d (h + 1) (h - 1) c ∗ backs d h c)
/-- The slot behind freed, the credit for hop `h + 1` awaited. -/
def idle (d : Bool) (h : ℕ) (c : Dev nD) : sProp 𝕄 :=
  iprop(core d (h + 1) (h - 1) c ∗ cred (tallyAt (cell (.cr d) c) (3 * h + 1) 1) ∗ backs d (h + 1) c)

/-! ## The five steps -/

/-- SEND hop `h`: half the source's share goes with it, into the slot ahead. -/
theorem hop_send (d : Bool) (h : ℕ) (h1 : 1 ≤ h) (h6 : h ≤ 6) (c n : Dev nD) (l : List Post) (hn : n = dst d c) {sp sp' : Space}
    {from' into : Memref sig .tc .vmem S2x512x1024 .bf16} {hsc : into.view.ref.isScScratch = false} {sS sem : SemLoc sig}
    {hsrc : from'.view.WordExact} {hdst : into.view.WordExact} {hsem : DmaTarget.Typed .vmem sem (.remote (n : Thread nD τ) into sS hsc)}
    (hf : from' = fromM d h) (hi : into = slotM d (sl h)) (hS : sS = .dma (sndS d (sl (h + 1)))) (hD : sem = .dma (rcvS d (sl h)))
    {α : Type} {Q : α → sProp 𝕄} {k : PUnit → Prog (TpuEff nD τ sig (Elt F) Λ₀ .tc) α} :
    iprop(recs m ρ K ∗ lane (F := F) d h c ∗ owns (c : Thread nD τ) (fromM d h) fullShare.left (sentC m ρ d h c)
        ∗ credit (F := F) d (rd h) (sl h) (dst d c) ∗ Owes (F := F) (.arrive d h :: l) c)
      ⊢ iprop((iprop(flying (F := F) d h c ∗ Owes (F := F) l c) -∗ WP c (k ⟨⟩) Q)
          -∗ WP c (.op (.enqueueDma from' (.remote (n : Thread nD τ) into sS hsc) sem hsrc hdst hsem) k) Q) := by
  subst hn hf hi hS hD
  unfold lane core credit posn
  rw [ends_step d h h6 c]
  iintro ⟨#HR, ⟨⟨⟨Hp1, #Hr1⟩, Hp2, Hp3, Hp4, ⟨Hp5, #Hr5⟩, ⟨Ht, Ht', Hc⟩, He⟩, Hb⟩, Hs, ⟨HX, #Hrr⟩, HO⟩ Hk
  iapply (wp_send m ρ K c (dst d c) (.arrive d h) (.sent d h) l (peer_ahead d c).symm rfl (from' := fromM d h) (into := slotM d (sl h))
      (sS := .dma (sndS d (sl (h + 1)))) (sem := .dma (rcvS d (sl h))) rfl rfl (credit_slot d (sl h)) rfl
      (by show (0 : Fin 3) ∈ (if rd h < 3 then ({0} : Finset (Fin 3)) else ∅); rw [if_pos (by show (h - 1) / 2 < 3; omega)]; exact Finset.mem_singleton_self _)
      (by show (0 : Fin 3) ∈ (if rd h < 3 then ({0} : Finset (Fin 3)) else ∅); rw [if_pos (by show (h - 1) / 2 < 3; omega)]; exact Finset.mem_singleton_self _)
      fullShare.left (sentC m ρ d h c) (reached ER (cell (.cr d) c) (h - 1))
      (Entails.of_eq (pay_snd m ρ d h h1 c 0).symm)
      (by
        show _ ⊢ pay m ρ (.rcv d (sl h)) (dst d c) (rd h) 0
        rw [pay_rcv m ρ d h h1]; unfold landed; rw [con_step m ρ d h h1, src_dst])) $$ [Hs HX HO Ht Ht']
  · isplitr; · iexact HR
    isplitl [Hs]; · iexact Hs
    isplitl [HX]; · iexact HX
    isplitr; · iexact Hr5
    isplitl [HO]; · iexact HO
    isplitl [Ht]; · iexact Ht
    isplitr; · iexact Hr1
    isplitl [Ht']; · iexact Ht'
    iexact Hrr
  iintro ⟨Hc', HO⟩
  iapply Hk
  isplitr [HO]
  · unfold flying posn
    isplitl [Hc']; · iexact Hc'
    isplitl [Hc]; · iexact Hc
    isplitl [Hp1 Hp2 Hp3 Hp4 Hp5]
    · isplitl [Hp1]
      · isplitl [Hp1]; · iexact Hp1
        iexact Hr1
      isplitl [Hp2]; · iexact Hp2
      isplitl [Hp3]; · iexact Hp3
      isplitl [Hp4]; · iexact Hp4
      isplitl [Hp5]; · iexact Hp5
      iexact Hr5
    isplitl [He]; · iexact He
    iexact Hb
  iexact HO

/-- WAIT for hop `h`'s send: the source's share comes back. -/
theorem hop_sent (d : Bool) (h : ℕ) (h1 : 1 ≤ h) (h6 : h ≤ 6) (c : Dev nD) (l : List Post) (hl : (0 : ℕ) < LN ∧ ∀ p ∈ l, 0 < p.ix ∧ p.ix < LN)
    {sp sp' : Space} {s s' : Shape} {e e' : EltTy} {sem : DmaSem sig} {from' : Memref sig .tc sp s e} {into : Memref sig .tc sp' s' e'}
    {hsrc : from'.view.WordExact} {hdst : into.view.WordExact} (hS : sem = sndS d (sl (h + 1))) (hN : into.view.dmaCredit = NH)
    {α : Type} {Q : α → sProp 𝕄} {k : PUnit → Prog (TpuEff nD τ sig (Elt F) Λ₀ .tc) α} :
    iprop(recs m ρ K ∗ flying (F := F) d h c ∗ Owes (F := F) l c)
      ⊢ iprop((iprop(sentOff (F := F) d h c ∗ owns (c : Thread nD τ) (fromM d h) fullShare.left (sentC m ρ d h c) ∗ Owes (F := F) l c) -∗ WP c (k ⟨⟩) Q)
          -∗ WP c (.op (.waitDma2 sem from' into hsrc hdst) k) Q) := by
  subst hS
  unfold flying
  iintro ⟨#HR, ⟨Hc', Hc, ⟨Hp1, Hp⟩, He⟩, HO⟩ Hk
  iapply (wp_take m ρ K c (.snd d (sl (h + 1))) (rd h) 0 l (wpE_waitDma2_eq 𝒱₀ (c : Thread nD τ) none Set.univ) rfl hN.symm
      (if_pos (by show (h - 1) / 2 < 3; omega)) hl) $$ [Hc' HO Hp1]
  · isplitr; · iexact HR
    isplitl [Hc']; · iexact Hc'
    isplitl [HO]; · iexact HO
    iexact Hp1
  rw [pay_snd m ρ d h h1]
  iintro ⟨HO, Hp1, Hs⟩
  iapply Hk
  isplitr [Hs HO]
  · unfold sentOff
    isplitl [Hc]; · iexact Hc
    isplitl [Hp1 Hp]
    · isplitl [Hp1]; · iexact Hp1
      iexact Hp
    iexact He
  isplitl [Hs]; · iexact Hs
  iexact HO

/-- WAIT for hop `h`'s arrival: the slot, filled, and that the sender has taken its credit. -/
theorem hop_arrived (d : Bool) (h : ℕ) (h1 : 1 ≤ h) (h6 : h ≤ 6) (c : Dev nD) (l : List Post) (hl : 3 * h < LN ∧ ∀ p ∈ l, 3 * h < p.ix ∧ p.ix < LN)
    {sp sp' : Space} {s s' : Shape} {e e' : EltTy} {sem : DmaSem sig} {from' : Memref sig .tc sp s e} {into : Memref sig .tc sp' s' e'}
    {hsrc : from'.view.WordExact} {hdst : into.view.WordExact} (hS : sem = rcvS d (sl h)) (hN : into.view.dmaCredit = NH)
    {α : Type} {Q : α → sProp 𝕄} {k : PUnit → Prog (TpuEff nD τ sig (Elt F) Λ₀ .tc) α} :
    iprop(recs m ρ K ∗ sentOff (F := F) d h c ∗ Owes (F := F) l c)
      ⊢ iprop((iprop((arrived (F := F) d h c ∗ reached ER (cell (.cr d) (src d c)) (h - 1)) ∗ owns (c : Thread nD τ) (slotM d (sl h)) fullShare (con m ρ d h c)
            ∗ Owes (F := F) l c) -∗ WP c (k ⟨⟩) Q)
          -∗ WP c (.op (.waitDma2 sem from' into hsrc hdst) k) Q) := by
  subst hS
  unfold sentOff
  iintro ⟨#HR, ⟨Hc, ⟨Hp1, Hp2, Hp3, Hp4, Hp5⟩, He, Hb⟩, HO⟩ Hk
  iapply (wp_take m ρ K c (.rcv d (sl h)) (rd h) (3 * h) l (wpE_waitDma2_eq 𝒱₀ (c : Thread nD τ) none Set.univ) rfl hN.symm
      (if_pos (by show (h - 1) / 2 < 3; omega)) hl) $$ [Hc HO Hp3]
  · isplitr; · iexact HR
    isplitl [Hc]; · iexact Hc
    isplitl [HO]; · iexact HO
    iexact Hp3
  rw [pay_rcv m ρ d h h1]
  unfold landed
  iintro ⟨HO, Hp3, Hs, Hr⟩
  iapply Hk
  isplitr [Hs HO]
  · isplitr [Hr]
    · unfold arrived core
      rw [sl_two, rd_two h h1]
      isplitr [Hb]
      · isplitl [Hp2]; · iexact Hp2
        isplitl [Hp1]; · iexact Hp1
        isplitl [Hp4]; · iexact Hp4
        isplitl [Hp3]; · iexact Hp3
        isplitl [Hp5]; · iexact Hp5
        iexact He
      iexact Hb
    iexact Hr
  isplitl [Hs]; · iexact Hs
  iexact HO

/-- SIGNAL behind that the other slot is free. -/
theorem hop_free (d : Bool) (h : ℕ) (h1 : 1 ≤ h) (h5 : h ≤ 5) (c n : Dev nD) (l : List Post) (hn : n = src d c) {sem : Sem sig} (hS : sem = crS d)
    {α : Type} {Q : α → sProp 𝕄} {k : PUnit → Prog (TpuEff nD τ sig (Elt F) Λ₀ .tc) α} :
    iprop(recs m ρ K ∗ (arrived (F := F) d h c ∗ reached ER (cell (.cr d) (src d c)) (h - 1))
        ∗ (∃ X, owns (c : Thread nD τ) (slotM d (sl (h + 1))) fullShare X) ∗ Owes (F := F) (.free d h :: l) c)
      ⊢ iprop((iprop(idle (F := F) d h c ∗ Owes (F := F) l c) -∗ WP c (k ⟨⟩) Q)
          -∗ WP c (.op (.semSignal (n : Thread nD τ) sem 1) k) Q) := by
  subst hn hS
  unfold arrived core posn
  rw [backs_step d h h5 c]
  iintro ⟨#HR, ⟨⟨⟨Hp1, Hp2, ⟨Hp3, #Hr3⟩, Hp4, Hp5, He⟩, ⟨Ht, Hc⟩, Hb⟩, #Hr⟩, HX, HO⟩ Hk
  iapply (wp_pay m ρ K c (src d c) (.free d h) l (peer_behind d c).symm (sem := crS d) rfl rfl
      (by show (0 : Fin 3) ∈ (if h - 1 < 5 then ({0} : Finset (Fin 3)) else ∅); rw [if_pos (by omega)]; exact Finset.mem_singleton_self _)) $$ [HO Ht HX]
  · isplitr; · iexact HR
    isplitl [HO]; · iexact HO
    isplitl [Ht]; · iexact Ht
    isplitl [HX]
    · iapply (Entails.of_eq ((pay_cr m ρ d h h1 (src d c) 0).trans (by rw [dst_src])).symm)
      unfold credit
      isplitl [HX]; · iexact HX
      iexact Hr3
    iexact Hr
  iintro HO
  iapply Hk
  isplitr [HO]
  · unfold idle core posn
    isplitr [Hc Hb]
    · isplitl [Hp1]; · iexact Hp1
      isplitl [Hp2]; · iexact Hp2
      isplitl [Hp3]
      · isplitl [Hp3]; · iexact Hp3
        iexact Hr3
      isplitl [Hp4]; · iexact Hp4
      isplitl [Hp5]; · iexact Hp5
      iexact He
    isplitl [Hc]; · iexact Hc
    iexact Hb
  iexact HO

/-- WAIT for the credit of hop `h + 1`: the slot ahead. -/
theorem hop_credit (d : Bool) (h : ℕ) (h1 : 1 ≤ h) (h5 : h ≤ 5) (c : Dev nD) (l : List Post) (hl : 3 * h + 1 < LN ∧ ∀ p ∈ l, 3 * h + 1 < p.ix ∧ p.ix < LN)
    {sem : Sem sig} (hS : sem = crS d)
    {α : Type} {Q : α → sProp 𝕄} {k : PUnit → Prog (TpuEff nD τ sig (Elt F) Λ₀ .tc) α} :
    iprop(recs m ρ K ∗ idle (F := F) d h c ∗ Owes (F := F) l c)
      ⊢ iprop((iprop(lane (F := F) d (h + 1) c ∗ credit (F := F) d (rd (h + 1)) (sl (h + 1)) (dst d c) ∗ Owes (F := F) l c) -∗ WP c (k ⟨⟩) Q)
          -∗ WP c (.op (.semWait sem 1) k) Q) := by
  subst hS
  unfold idle core
  iintro ⟨#HR, ⟨⟨Hp1, Hp2, Hp3, Hp4, Hp5, He⟩, Hc, Hb⟩, HO⟩ Hk
  iapply (wp_take m ρ K c (.cr d) (h - 1) (3 * h + 1) l (wpE_semWait_eq 𝒱₀ (c : Thread nD τ) none Set.univ) rfl rfl
      (if_pos (by omega)) hl) $$ [Hc HO Hp5]
  · isplitr; · iexact HR
    isplitl [Hc]; · iexact Hc
    isplitl [HO]; · iexact HO
    iexact Hp5
  rw [pay_cr m ρ d h h1, show h - 1 + 1 = h + 1 - 1 from by omega]
  iintro ⟨HO, Hp5, Hs⟩
  iapply Hk
  isplitr [Hs HO]
  · unfold lane core
    isplitr [Hb]
    · isplitl [Hp1]; · iexact Hp1
      isplitl [Hp2]; · iexact Hp2
      isplitl [Hp3]; · iexact Hp3
      isplitl [Hp4]; · iexact Hp4
      isplitl [Hp5]; · iexact Hp5
      iexact He
    iexact Hb
  isplitl [Hs]; · iexact Hs
  iexact HO

end Cert.KernelIdeal.Exchange
-- ==== Proof.Hops.lean ====
/-
# The hops with the slots they move

The five steps of a lane together with the slots the device holds between them, in the form the kernel's parts apply them;
the barrier, the partner transfer and the exit; and which device each of the kernel's device words is.
-/
module

public import proofs.«01_k».proof.Proof.Lanes

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Kd → ℕ)

/-! ## The device words -/

/-- The kernel's word for the left neighbour, as it first computes it; every other of its words for the left neighbour is the
    same computation. -/
theorem dev_lf (c : Dev nD) : (⟨k0_dev1 c, k0_dev1_lt c⟩ : Dev nD) = lf c := by revert c; decide +kernel
@[inherit_doc dev_lf] theorem dev_rt (c : Dev nD) : (⟨k0_dev2 c, k0_dev2_lt c⟩ : Dev nD) = rt c := by revert c; decide +kernel
@[inherit_doc dev_lf] theorem dev_zp (c : Dev nD) : (⟨k0_dev3 c, k0_dev3_lt c⟩ : Dev nD) = zp c := by revert c; decide +kernel

/-! ## Holdings -/

/-- Part `M` owned, whatever it holds. -/
def any {s : Shape} {e : EltTy} (c : Dev nD) (M : Memref sig .tc .vmem s e) : sProp 𝕄 := iprop(∃ X, owns (c : Thread nD τ) M fullShare X)

/-- Before hop `h`: the lane, the slot of the hop before, and the slot ahead. -/
def ready (d : Bool) (h : ℕ) (c : Dev nD) : sProp 𝕄 :=
  iprop(lane (F := F) d h c ∗ owns (c : Thread nD τ) (slotM d (sl (h + 1))) fullShare (con m ρ d (h - 1) c) ∗ credit (F := F) d (rd h) (sl h) (dst d c))
/-- After hop `h`'s send: the lane, and the source's slot. -/
def backed (d : Bool) (h : ℕ) (c : Dev nD) : sProp 𝕄 := iprop(sentOff (F := F) d h c ∗ any (F := F) c (slotM d (sl (h + 1))))
/-- After hop `h`'s arrival: the lane, the source's slot, and what has arrived. -/
def landedAt (d : Bool) (h : ℕ) (c : Dev nD) : sProp 𝕄 :=
  iprop((arrived (F := F) d h c ∗ reached ER (cell (.cr d) (src d c)) (h - 1)) ∗ any (F := F) c (slotM d (sl (h + 1)))
    ∗ owns (c : Thread nD τ) (slotM d (sl h)) fullShare (con m ρ d h c))
/-- After the source's slot is freed: the lane, and what has arrived. -/
def freed (d : Bool) (h : ℕ) (c : Dev nD) : sProp 𝕄 :=
  iprop(idle (F := F) d h c ∗ owns (c : Thread nD τ) (slotM d (sl h)) fullShare (con m ρ d h c))

/-! ## The steps with the slots -/

/-- SEND hop `h` from the slot: half the slot's share stays for the loads. -/
theorem go (d : Bool) (h : ℕ) (h1 : 1 ≤ h) (h6 : h ≤ 6) (h4 : h ≠ 4) (c n : Dev nD) (l' l : List Post) (hl' : l' = .arrive d h :: l) (hn : n = dst d c)
    {from' into : Memref sig .tc .vmem S2x512x1024 .bf16} {hsc : into.view.ref.isScScratch = false} {sS sem : SemLoc sig}
    {hsrc : from'.view.WordExact} {hdst : into.view.WordExact} {hsem : DmaTarget.Typed .vmem sem (.remote (n : Thread nD τ) into sS hsc)}
    (hf : from' = slotM d (sl (h + 1))) (hi : into = slotM d (sl h)) (hS : sS = .dma (sndS d (sl (h + 1)))) (hD : sem = .dma (rcvS d (sl h)))
    {α : Type} {Q : α → sProp 𝕄} {k : PUnit → Prog (TpuEff nD τ sig (Elt F) Λ₀ .tc) α} :
    recs m ρ K ⊢ iprop(ready m ρ d h c -∗ Owes (F := F) l' c
        -∗ (flying (F := F) d h c -∗ owns (c : Thread nD τ) (slotM d (sl (h + 1))) fullShare.right (con m ρ d (h - 1) c) -∗ Owes (F := F) l c -∗ WP c (k ⟨⟩) Q)
        -∗ WP c (.op (.enqueueDma from' (.remote (n : Thread nD τ) into sS hsc) sem hsrc hdst hsem) k) Q) := by
  subst hl'
  have hF : fromM d h = slotM d (sl (h + 1)) := if_neg h4
  have hC : sentC m ρ d h c = con m ρ d (h - 1) c := if_neg h4
  have key := hop_send m ρ K d h h1 h6 c n l hn (sp := .vmem) (sp' := .vmem) (hsc := hsc) (hsrc := hsrc) (hdst := hdst) (hsem := hsem) (hf.trans hF.symm) hi hS hD (Q := Q) (k := k)
  rw [hF, hC] at key
  unfold ready
  iintro #HR ⟨HL, HS, HC⟩ HO Hk
  ihave HS' := (owns_halves (c : Thread nD τ) (slotM d (sl (h + 1))) fullShare (con m ρ d (h - 1) c)).1 $$ HS
  icases HS' with ⟨HS1, HS2⟩
  iapply key $$ [HL HS1 HC HO]
  · isplitr; · iexact HR
    isplitl [HL]; · iexact HL
    isplitl [HS1]; · iexact HS1
    isplitl [HC]; · iexact HC
    iexact HO
  iintro ⟨HL, HO⟩
  iapply Hk $$ HL HS2 HO

/-- SEND the fourth hop from the half of the partner's block; the slot stays. -/
theorem go4 (d : Bool) (c n : Dev nD) (l' l : List Post) (hl' : l' = .arrive d 4 :: l) (hn : n = dst d c)
    {from' into : Memref sig .tc .vmem S2x512x1024 .bf16} {hsc : into.view.ref.isScScratch = false} {sS sem : SemLoc sig}
    {hsrc : from'.view.WordExact} {hdst : into.view.WordExact} {hsem : DmaTarget.Typed .vmem sem (.remote (n : Thread nD τ) into sS hsc)}
    (hf : from' = zhM d) (hi : into = slotM d 0) (hS : sS = .dma (sndS d 1)) (hD : sem = .dma (rcvS d 0))
    {α : Type} {Q : α → sProp 𝕄} {k : PUnit → Prog (TpuEff nD τ sig (Elt F) Λ₀ .tc) α} :
    recs m ρ K ⊢ iprop(ready m ρ d 4 c -∗ owns (c : Thread nD τ) (zhM d) fullShare.left (half d (zC m ρ (zp c))) -∗ Owes (F := F) l' c
        -∗ (flying (F := F) d 4 c -∗ owns (c : Thread nD τ) (slotM d (sl (4 + 1))) fullShare (con m ρ d (4 - 1) c) -∗ Owes (F := F) l c -∗ WP c (k ⟨⟩) Q)
        -∗ WP c (.op (.enqueueDma from' (.remote (n : Thread nD τ) into sS hsc) sem hsrc hdst hsem) k) Q) := by
  subst hl'
  have hF : fromM d 4 = zhM d := if_pos rfl
  have hC : sentC m ρ d 4 c = half d (zC m ρ (zp c)) := if_pos rfl
  have key := hop_send m ρ K d 4 (by decide) (by decide) c n l hn (sp := .vmem) (sp' := .vmem) (hsc := hsc) (hsrc := hsrc) (hdst := hdst) (hsem := hsem) (hf.trans hF.symm) hi hS hD (Q := Q) (k := k)
  rw [hF, hC] at key
  unfold ready
  iintro #HR ⟨HL, HS, HC⟩ HZ HO Hk
  iapply key $$ [HL HZ HC HO]
  · isplitr; · iexact HR
    isplitl [HL]; · iexact HL
    isplitl [HZ]; · iexact HZ
    isplitl [HC]; · iexact HC
    iexact HO
  iintro ⟨HL, HO⟩
  iapply Hk $$ HL HS HO

/-- WAIT for hop `h`'s send: the slot is whole again. -/
theorem sent (d : Bool) (h : ℕ) (h1 : 1 ≤ h) (h6 : h ≤ 6) (h4 : h ≠ 4) (c : Dev nD) (l : List Post) (hl : (0 : ℕ) < LN ∧ ∀ p ∈ l, 0 < p.ix ∧ p.ix < LN)
    {sp sp' : Space} {s s' : Shape} {e e' : EltTy} {sem : DmaSem sig} {from' : Memref sig .tc sp s e} {into : Memref sig .tc sp' s' e'}
    {hsrc : from'.view.WordExact} {hdst : into.view.WordExact} (hS : sem = sndS d (sl (h + 1))) (hN : into.view.dmaCredit = NH)
    {α : Type} {Q : α → sProp 𝕄} {k : PUnit → Prog (TpuEff nD τ sig (Elt F) Λ₀ .tc) α} :
    recs m ρ K ⊢ iprop(flying (F := F) d h c -∗ owns (c : Thread nD τ) (slotM d (sl (h + 1))) fullShare.right (con m ρ d (h - 1) c) -∗ Owes (F := F) l c
        -∗ (backed (F := F) d h c -∗ Owes (F := F) l c -∗ WP c (k ⟨⟩) Q) -∗ WP c (.op (.waitDma2 sem from' into hsrc hdst) k) Q) := by
  have hF : fromM d h = slotM d (sl (h + 1)) := if_neg h4
  have hC : sentC m ρ d h c = con m ρ d (h - 1) c := if_neg h4
  have key := hop_sent m ρ K d h h1 h6 c l hl (from' := from') (into := into) (hsrc := hsrc) (hdst := hdst) hS hN (Q := Q) (k := k)
  rw [hF, hC] at key
  unfold backed any
  iintro #HR HL HS HO Hk
  iapply key $$ [HL HO]
  · isplitr; · iexact HR
    isplitl [HL]; · iexact HL
    iexact HO
  iintro ⟨HL, HS1, HO⟩
  iapply Hk $$ [HL HS HS1] HO
  isplitl [HL]; · iexact HL
  iexists _
  iapply (owns_halves (c : Thread nD τ) (slotM d (sl (h + 1))) fullShare (con m ρ d (h - 1) c)).2
  isplitl [HS1]; · iexact HS1
  iexact HS

/-- WAIT for the fourth hop's send: the half of the partner's block is back. -/
theorem sent4 (d : Bool) (c : Dev nD) (l : List Post) (hl : (0 : ℕ) < LN ∧ ∀ p ∈ l, 0 < p.ix ∧ p.ix < LN)
    {sp sp' : Space} {s s' : Shape} {e e' : EltTy} {sem : DmaSem sig} {from' : Memref sig .tc sp s e} {into : Memref sig .tc sp' s' e'}
    {hsrc : from'.view.WordExact} {hdst : into.view.WordExact} (hS : sem = sndS d 1) (hN : into.view.dmaCredit = NH)
    {α : Type} {Q : α → sProp 𝕄} {k : PUnit → Prog (TpuEff nD τ sig (Elt F) Λ₀ .tc) α} :
    recs m ρ K ⊢ iprop(flying (F := F) d 4 c -∗ owns (c : Thread nD τ) (slotM d (sl (4 + 1))) fullShare (con m ρ d (4 - 1) c) -∗ Owes (F := F) l c
        -∗ (backed (F := F) d 4 c -∗ owns (c : Thread nD τ) (zhM d) fullShare.left (half d (zC m ρ (zp c))) -∗ Owes (F := F) l c -∗ WP c (k ⟨⟩) Q)
        -∗ WP c (.op (.waitDma2 sem from' into hsrc hdst) k) Q) := by
  have hF : fromM d 4 = zhM d := if_pos rfl
  have hC : sentC m ρ d 4 c = half d (zC m ρ (zp c)) := if_pos rfl
  have key := hop_sent m ρ K d 4 (by decide) (by decide) c l hl (from' := from') (into := into) (hsrc := hsrc) (hdst := hdst) hS hN (Q := Q) (k := k)
  rw [hF, hC] at key
  unfold backed any
  iintro #HR HL HS HO Hk
  iapply key $$ [HL HO]
  · isplitr; · iexact HR
    isplitl [HL]; · iexact HL
    iexact HO
  iintro ⟨HL, HZ, HO⟩
  iapply Hk $$ [HL HS] HZ HO
  isplitl [HL]; · iexact HL
  iexists _
  iexact HS

/-- WAIT for hop `h`'s arrival. -/
theorem came (d : Bool) (h : ℕ) (h1 : 1 ≤ h) (h6 : h ≤ 6) (c : Dev nD) (l : List Post) (hl : 3 * h < LN ∧ ∀ p ∈ l, 3 * h < p.ix ∧ p.ix < LN)
    {sp sp' : Space} {s s' : Shape} {e e' : EltTy} {sem : DmaSem sig} {from' : Memref sig .tc sp s e} {into : Memref sig .tc sp' s' e'}
    {hsrc : from'.view.WordExact} {hdst : into.view.WordExact} (hS : sem = rcvS d (sl h)) (hN : into.view.dmaCredit = NH)
    {α : Type} {Q : α → sProp 𝕄} {k : PUnit → Prog (TpuEff nD τ sig (Elt F) Λ₀ .tc) α} :
    recs m ρ K ⊢ iprop(backed (F := F) d h c -∗ Owes (F := F) l c -∗ (landedAt m ρ d h c -∗ Owes (F := F) l c -∗ WP c (k ⟨⟩) Q)
        -∗ WP c (.op (.waitDma2 sem from' into hsrc hdst) k) Q) := by
  unfold backed landedAt
  iintro #HR ⟨HL, HS⟩ HO Hk
  iapply (hop_arrived m ρ K d h h1 h6 c l hl hS hN) $$ [HL HO]
  · isplitr; · iexact HR
    isplitl [HL]; · iexact HL
    iexact HO
  iintro ⟨HL, HN, HO⟩
  iapply Hk $$ [HL HS HN] HO
  isplitl [HL]; · iexact HL
  isplitl [HS]; · iexact HS
  iexact HN

/-- SIGNAL behind that the source's slot is free. -/
theorem free (d : Bool) (h : ℕ) (h1 : 1 ≤ h) (h5 : h ≤ 5) (c n : Dev nD) (l' l : List Post) (hl' : l' = .free d h :: l) (hn : n = src d c) {sem : Sem sig} (hS : sem = crS d)
    {α : Type} {Q : α → sProp 𝕄} {k : PUnit → Prog (TpuEff nD τ sig (Elt F) Λ₀ .tc) α} :
    recs m ρ K ⊢ iprop(landedAt m ρ d h c -∗ Owes (F := F) l' c -∗ (freed m ρ d h c -∗ Owes (F := F) l c -∗ WP c (k ⟨⟩) Q)
        -∗ WP c (.op (.semSignal (n : Thread nD τ) sem 1) k) Q) := by
  subst hl'
  unfold landedAt freed any
  iintro #HR ⟨HL, HS, HN⟩ HO Hk
  iapply (hop_free m ρ K d h h1 h5 c n l hn hS) $$ [HL HS HO]
  · isplitr; · iexact HR
    isplitl [HL]; · iexact HL
    isplitl [HS]; · iexact HS
    iexact HO
  iintro ⟨HL, HO⟩
  iapply Hk $$ [HL HN] HO
  isplitl [HL]; · iexact HL
  iexact HN

/-- WAIT for the credit of the next hop. -/
theorem may (d : Bool) (h : ℕ) (h1 : 1 ≤ h) (h5 : h ≤ 5) (c : Dev nD) (l : List Post) (hl : 3 * h + 1 < LN ∧ ∀ p ∈ l, 3 * h + 1 < p.ix ∧ p.ix < LN)
    {sem : Sem sig} (hS : sem = crS d) {α : Type} {Q : α → sProp 𝕄} {k : PUnit → Prog (TpuEff nD τ sig (Elt F) Λ₀ .tc) α} :
    recs m ρ K ⊢ iprop(freed m ρ d h c -∗ Owes (F := F) l c -∗ (ready m ρ d (h + 1) c -∗ Owes (F := F) l c -∗ WP c (k ⟨⟩) Q)
        -∗ WP c (.op (.semWait sem 1) k) Q) := by
  unfold freed ready
  rw [sl_two, show h + 1 - 1 = h from by omega]
  iintro #HR ⟨HL, HN⟩ HO Hk
  iapply (hop_credit m ρ K d h h1 h5 c l hl hS) $$ [HL HO]
  · isplitr; · iexact HR
    isplitl [HL]; · iexact HL
    iexact HO
  iintro ⟨HL, HC, HO⟩
  iapply Hk $$ [HL HN HC] HO
  isplitl [HL]; · iexact HL
  isplitl [HN]; · iexact HN
  iexact HC

/-- SEND the block to the partner. -/
theorem goz (c n : Dev nD) (l' l : List Post) (hl' : l' = ⟨.Z, .zr, 0, 0, 2⟩ :: l) (hn : n = zp c)
    {from' into : Memref sig .tc .vmem S4x512x1024 .bf16} {hsc : into.view.ref.isScScratch = false} {sS sem : SemLoc sig}
    {hsrc : from'.view.WordExact} {hdst : into.view.WordExact} {hsem : DmaTarget.Typed .vmem sem (.remote (n : Thread nD τ) into sS hsc)}
    (hf : from' = zsM) (hi : into = zbM) (hS : sS = .dma cc0_scratch8.sem) (hD : sem = .dma cc0_scratch9.sem)
    {α : Type} {Q : α → sProp 𝕄} {k : PUnit → Prog (TpuEff nD τ sig (Elt F) Λ₀ .tc) α} :
    recs m ρ K ⊢ iprop(owns (c : Thread nD τ) zsM fullShare (zC m ρ c) -∗ any (F := F) (zp c) zbM
        -∗ tok (F := F) ⟨.S, .zs, 0, 0, 0⟩ c -∗ tok (F := F) ⟨.Z, .zr, 0, 0, 2⟩ c -∗ Owes (F := F) l' c
        -∗ (cred (tallyAt (cell .zs c) 0 (amt .zs)) -∗ Owes (F := F) l c -∗ WP c (k ⟨⟩) Q)
        -∗ WP c (.op (.enqueueDma from' (.remote (n : Thread nD τ) into sS hsc) sem hsrc hdst hsem) k) Q) := by
  subst hl' hn hf hi hS hD
  unfold any
  iintro #HR HZ HB Ht Ht' HO Hk
  iapply (wp_send m ρ K c (zp c) ⟨.Z, .zr, 0, 0, 2⟩ ⟨.S, .zs, 0, 0, 0⟩ l rfl rfl (from' := zsM) (into := zbM)
      (sS := .dma cc0_scratch8.sem) (sem := .dma cc0_scratch9.sem) rfl rfl rfl rfl (by decide) (by decide) fullShare (zC m ρ c) iprop(emp)
      .rfl (by
        show _ ⊢ iprop(owns (zp c : Thread nD τ) zbM fullShare (zC m ρ (zp (zp c))))
        rw [zp_zp]; exact sep_elim_left)) $$ [HO HZ HB Ht Ht']
  · isplitr; · iexact HR
    isplitl [HZ]; · iexact HZ
    isplitl [HB]; · iexact HB
    isplitr; · iempintro
    isplitl [HO]; · iexact HO
    isplitl [Ht]; · iexact Ht
    isplitr; · iapply (recs_reached m ρ K .zs c) $$ HR
    isplitl [Ht']; · iexact Ht'
    iapply (recs_reached m ρ K .zr (zp c)) $$ HR
  iintro ⟨Hc, HO⟩
  iapply Hk $$ Hc HO

/-- WAIT for the partner's block: it arrives whole, and is held in two shares, one of them by halves for the fourth hop. -/
theorem camez (c : Dev nD) (l : List Post) (hl : 2 < LN ∧ ∀ p ∈ l, 2 < p.ix ∧ p.ix < LN)
    {sp sp' : Space} {s s' : Shape} {e e' : EltTy} {sem : DmaSem sig} {from' : Memref sig .tc sp s e} {into : Memref sig .tc sp' s' e'}
    {hsrc : from'.view.WordExact} {hdst : into.view.WordExact} (hS : sem = cc0_scratch9.sem) (hN : into.view.dmaCredit = NB)
    {α : Type} {Q : α → sProp 𝕄} {k : PUnit → Prog (TpuEff nD τ sig (Elt F) Λ₀ .tc) α} :
    recs m ρ K ⊢ iprop(cred (tallyAt (cell .zr c) 2 (amt .zr)) -∗ posn (F := F) .zr c 0 -∗ Owes (F := F) l c
        -∗ (posn (F := F) .zr c 1 -∗ owns (c : Thread nD τ) zbM fullShare.right (zC m ρ (zp c))
            -∗ owns (c : Thread nD τ) (zhM true) fullShare.left (half true (zC m ρ (zp c)))
            -∗ owns (c : Thread nD τ) (zhM false) fullShare.left (half false (zC m ρ (zp c))) -∗ Owes (F := F) l c -∗ WP c (k ⟨⟩) Q)
        -∗ WP c (.op (.waitDma2 sem from' into hsrc hdst) k) Q) := by
  subst hS
  iintro #HR Hc Hp HO Hk
  iapply (wp_take m ρ K c .zr 0 2 l (wpE_waitDma2_eq 𝒱₀ (c : Thread nD τ) none Set.univ) rfl hN.symm rfl hl) $$ [Hc HO Hp]
  · isplitr; · iexact HR
    isplitl [Hc]; · iexact Hc
    isplitl [HO]; · iexact HO
    iexact Hp
  iintro ⟨HO, Hp, Hz⟩
  ihave Hz' := (Entails.of_eq (show pay m ρ .zr c 0 0 = owns (c : Thread nD τ) zbM fullShare (zC m ρ (zp c)) from rfl)) $$ Hz
  ihave Hz2 := (owns_halves (c : Thread nD τ) zbM fullShare (zC m ρ (zp c))).1 $$ Hz'
  icases Hz2 with ⟨Hl, Hr⟩
  ihave Hl2 := (halves_of c fullShare.left (zC m ρ (zp c))) $$ Hl
  icases Hl2 with ⟨Hl1, Hl2⟩
  iapply Hk $$ Hp Hr Hl1 Hl2 HO

/-- The partner's block put together again. -/
theorem zwhole (c : Dev nD) (Z : Vec F S4x512x1024 .bf16) :
    (owns (c : Thread nD τ) zbM fullShare.right Z : sProp 𝕄) ⊢ iprop(owns (c : Thread nD τ) (zhM true) fullShare.left (half true Z)
      -∗ owns (c : Thread nD τ) (zhM false) fullShare.left (half false Z) -∗ any (F := F) c zbM) := by
  unfold any
  iintro Hr H1 H2
  iexists _
  iapply (owns_halves (c : Thread nD τ) zbM fullShare Z).2
  isplitr [Hr]
  · iapply (of_halves c fullShare.left Z)
    isplitl [H1]; · iexact H1
    iexact H2
  iexact Hr

/-- WAIT for the send to the partner: the block is back. -/
theorem sentz (c : Dev nD) (l : List Post) (hl : 0 < LN ∧ ∀ p ∈ l, 0 < p.ix ∧ p.ix < LN)
    {sp sp' : Space} {s s' : Shape} {e e' : EltTy} {sem : DmaSem sig} {from' : Memref sig .tc sp s e} {into : Memref sig .tc sp' s' e'}
    {hsrc : from'.view.WordExact} {hdst : into.view.WordExact} (hS : sem = cc0_scratch8.sem) (hN : into.view.dmaCredit = NB)
    {α : Type} {Q : α → sProp 𝕄} {k : PUnit → Prog (TpuEff nD τ sig (Elt F) Λ₀ .tc) α} :
    recs m ρ K ⊢ iprop(cred (tallyAt (cell .zs c) 0 (amt .zs)) -∗ posn (F := F) .zs c 0 -∗ Owes (F := F) l c
        -∗ (posn (F := F) .zs c 1 -∗ any (F := F) c zsM -∗ Owes (F := F) l c -∗ WP c (k ⟨⟩) Q)
        -∗ WP c (.op (.waitDma2 sem from' into hsrc hdst) k) Q) := by
  subst hS
  iintro #HR Hc Hp HO Hk
  iapply (wp_take m ρ K c .zs 0 0 l (wpE_waitDma2_eq 𝒱₀ (c : Thread nD τ) none Set.univ) rfl hN.symm rfl hl) $$ [Hc HO Hp]
  · isplitr; · iexact HR
    isplitl [Hc]; · iexact Hc
    isplitl [HO]; · iexact HO
    iexact Hp
  iintro ⟨HO, Hp, Hz⟩
  ihave Hz' := (Entails.of_eq (show pay m ρ .zs c 0 0 = owns (c : Thread nD τ) zsM fullShare (zC m ρ c) from rfl)) $$ Hz
  iapply Hk $$ Hp [Hz'] HO
  unfold any
  iexists _
  iexact Hz'

/-- A part that has come to its end. -/
theorem done (c : Dev nD) {α : Type} {Q : α → sProp 𝕄} {a : α} (b : α) (h : a = b) : Q b ⊢ WP c (.ret a) Q := by
  subst h
  show Q a ⊢ wp frame (wpE (defs₀ (F := F)) 𝒱₀ (c : Thread nD τ) none) Set.univ (Prog.ret a) Q
  rw [wp_ret]
  iintro H
  imodintro
  iexact H

/-! ## The parts on the kernel's buffers -/

/-- A part of the kernel, on the buffers and semaphores the launch calls it with. -/
abbrev onBufs {β : Type*} (f : ∀ (arg0 : Memref sig .tc .vmem S1024x512 .f32), arg0.IsWhole → ∀ (arg1 : Memref sig .tc .vmem S512x32 .f32), arg1.IsWhole →
    ∀ (arg2 : Memref sig .tc .vmem S1024x2 .i32), arg2.IsWhole → ∀ (arg3 : Memref sig .tc .vmem S4x512x1024 .f32), arg3.IsWhole →
    ∀ (arg4 : Memref sig .tc .vmem S1024x1024 .f32), arg4.IsWhole → ∀ (arg5 : Memref sig .tc .vmem S2x2x512x1024 .bf16), arg5.IsWhole →
    ∀ (arg6 : Memref sig .tc .vmem S2x2x512x1024 .bf16), arg6.IsWhole → ∀ (arg7 : Memref sig .tc .vmem S4x512x1024 .bf16), arg7.IsWhole →
    ∀ (arg8 : Memref sig .tc .vmem S4x512x1024 .bf16), arg8.IsWhole → DmaSems sig S2 → DmaSems sig S2 → DmaSems sig S2 → DmaSems sig S2 → DmaSems sig S_ → DmaSems sig S_ →
    Sems sig S_ → Sems sig S_ → Sems sig S_ → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11 cc0_scoped0

/-- A staging buffer of the kernel's, whole. -/
abbrev xM : Memref sig .tc .vmem S1024x512 .f32 := Memref.whole cc0_stg0_0
@[inherit_doc xM] abbrev rM : Memref sig .tc .vmem S512x32 .f32 := Memref.whole cc0_stg1_0
@[inherit_doc xM] abbrev iM : Memref sig .tc .vmem S1024x2 .i32 := Memref.whole cc0_stg2_0
@[inherit_doc xM] abbrev eM : Memref sig .tc .vmem S4x512x1024 .f32 := Memref.whole cc0_stg3_0
@[inherit_doc xM] abbrev oM : Memref sig .tc .vmem S1024x1024 .f32 := Memref.whole cc0_stg4_0

end Cert.KernelIdeal.Exchange
-- ==== Proof.Part1.lean ====
/-
# The kernel's parts: the meeting, the first hop

Each part of the kernel as a rule: what it takes, what it leaves, at a symbolic device.
-/
module

public import proofs.«01_k».proof.Proof.Hops

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Kd → ℕ) (c : Dev nD)

/-- The words a device computes of its index. -/
abbrev wd2 : BitVec 32 := Scalar.remsi (Scalar.divsi (Dev.word c) 1#32) 8#32
@[inherit_doc wd2] abbrev wd3 : BitVec 32 := Scalar.remsi (wd2 c) 4#32
@[inherit_doc wd2] abbrev wd4 : BitVec 32 := Scalar.subi (wd2 c) (wd3 c)
@[inherit_doc wd2] abbrev wd7 : BitVec 32 := Scalar.addi (wd4 c) (Scalar.remsi (Scalar.addi (wd3 c) 1#32) 4#32)
@[inherit_doc wd2] abbrev wd11 : BitVec 32 := Scalar.addi (wd4 c) (Scalar.remsi (Scalar.subi (Scalar.addi (wd3 c) 4#32) 1#32) 4#32)
@[inherit_doc wd2] abbrev wd13 : BitVec 32 := Scalar.remsi (Scalar.addi (wd2 c) 4#32) 8#32

/-- A column of the tokens' choices, as loaded. -/
def col (X : Vec F S1024x2 .i32) (o : ℕ) (h : ∀ a, (![0, o] : Fin 2 → Nat) a + S1024x1.size a ≤ S1024x2.size a) : Vec F S1024x1 .i32 :=
  fun j => X ((Rect.unit (s := S1024x2) ![0, o] S1024x1.size h).emb j)

/-- A LOAD of a column of the tokens' choices. -/
theorem load_col (I : Vec F S1024x2 .i32) (o : ℕ) {h : ∀ a, (![0, o] : Fin 2 → Nat) a + S1024x1.size a ≤ S1024x2.size a}
    {hl : (iM).view.LoadsAt (Rect.unit (s := S1024x2) ![0, o] S1024x1.size h).toLoadRect}
    {α : Type} {Q : α → sProp 𝕄} {k : Vec F S1024x1 .i32 → Prog (TpuEff nD τ sig (Elt F) Λ₀ .tc) α} :
    (owns (c : Thread nD τ) iM fullShare I : sProp 𝕄)
      ⊢ iprop((owns (c : Thread nD τ) iM fullShare I -∗ WP c (k (col I o h)) Q)
        -∗ WP c (.op (.load iM (Rect.unit (s := S1024x2) ![0, o] S1024x1.size h).toLoadRect hl) k) Q) :=
  load_part c iM fullShare (r := Rect.unit (s := S1024x2) ![0, o] S1024x1.size h) (hl := hl) I (k := k) (Q := Q)

/-- The first part: the meeting at the barrier, and the loads of the tokens, the router and the first choices. -/
theorem part1 (X : Vec F S1024x512 .f32) (R : Vec F S512x32 .f32) (I : Vec F S1024x2 .i32)
    {Q : (Σ' (d0 : Dev nD) (v2 : BitVec 32) (v3 : BitVec 32) (v4 : BitVec 32) (v7 : BitVec 32) (v11 : BitVec 32) (v13 : BitVec 32) (v22 : FVec F S1024x512 .f32) (v25 : FVec F S1024x32 .f32), Vec F S1024x1 .i32) → sProp 𝕄} :
    recs m ρ K ⊢ iprop(Owes (F := F) dues c -∗ (tok (F := F) ⟨.L, .bar, 0, 0, 1⟩ c ∗ tok (F := F) ⟨.R, .bar, 0, 1, 1⟩ c ∗ tok (F := F) ⟨.Z, .bar, 0, 2, 1⟩ c)
      -∗ any (F := F) c (slotM true 1) -∗ any (F := F) c (slotM false 1) -∗ any (F := F) c zbM
      -∗ (cred (tallyAt (cell .bar c) 1 1) ∗ cred (tallyAt (cell .bar c) 1 1) ∗ cred (tallyAt (cell .bar c) 1 1)) -∗ posn (F := F) .bar c 0
      -∗ owns (c : Thread nD τ) xM fullShare X -∗ owns (c : Thread nD τ) rM fullShare R -∗ owns (c : Thread nD τ) iM fullShare I
      -∗ (Owes (F := F) (dues.drop 3) c -∗ posn (F := F) .bar c 1 -∗ credit (F := F) true (rd 1) (sl 1) (dst true c) -∗ credit (F := F) false (rd 1) (sl 1) (dst false c)
          -∗ any (F := F) (zp c) zbM
          -∗ owns (c : Thread nD τ) xM fullShare X -∗ owns (c : Thread nD τ) rM fullShare R -∗ owns (c : Thread nD τ) iM fullShare I
          -∗ Q ⟨c, wd2 c, wd3 c, wd4 c, wd7 c, wd11 c, wd13 c, k0_pay1 X, k0_pay2 X R, col I 0 inb_S1024x2_S1024x1_0_0⟩)
      -∗ WP c (onBufs (k0_part1 (F := F))) Q) := by
  simp only [k0_part1_eq_skeleton]; unfold k0_part1_skel
  simp only [semSignalWord, semWaitWord, Prog.lift, Prog.bind_op, Prog.bind_ret, Prog.pure_eq_ret, Prog.bind_assoc, wp_deviceId]
  iintro #HR HO ⟨Ht1, Ht2, Ht3⟩ Hs1 Hs2 Hz ⟨Hc1, Hc2, Hc3⟩ Hb HX HRt HI Hk
  unfold any
  iapply (wp_pay m ρ K c _ ⟨.L, .bar, 0, 0, 1⟩ (dues.drop 1) (dev_lf c) (sem := barS) (k' := 1) rfl rfl (by decide)) $$ [HO Ht1 Hs1]
  · isplitr; · iexact HR
    isplitl [HO]; · iexact HO
    isplitl [Ht1]; · iexact Ht1
    isplitl [Hs1]
    · iapply (Entails.of_eq (show (iprop(∃ X, owns (c : Thread nD τ) (slotM true 1) fullShare X) : sProp 𝕄) = pay m ρ .bar _ 0 0 from by
        rw [dev_lf c]; show _ = iprop(∃ X, owns (rt (lf c) : Thread nD τ) (slotM true 1) fullShare X); rw [rt_lf])) $$ Hs1
    iapply (recs_reached m ρ K .bar _) $$ HR
  iintro HO
  iapply (wp_pay m ρ K c _ ⟨.R, .bar, 0, 1, 1⟩ (dues.drop 2) (dev_rt c) (sem := barS) (k' := 1) rfl rfl (by decide)) $$ [HO Ht2 Hs2]
  · isplitr; · iexact HR
    isplitl [HO]; · iexact HO
    isplitl [Ht2]; · iexact Ht2
    isplitl [Hs2]
    · iapply (Entails.of_eq (show (iprop(∃ X, owns (c : Thread nD τ) (slotM false 1) fullShare X) : sProp 𝕄) = pay m ρ .bar _ 0 1 from by
        rw [dev_rt c]; show _ = iprop(∃ X, owns (lf (rt c) : Thread nD τ) (slotM false 1) fullShare X); rw [lf_rt])) $$ Hs2
    iapply (recs_reached m ρ K .bar _) $$ HR
  iintro HO
  iapply (wp_pay m ρ K c _ ⟨.Z, .bar, 0, 2, 1⟩ (dues.drop 3) (dev_zp c) (sem := barS) (k' := 1) rfl rfl (by decide)) $$ [HO Ht3 Hz]
  · isplitr; · iexact HR
    isplitl [HO]; · iexact HO
    isplitl [Ht3]; · iexact Ht3
    isplitl [Hz]
    · iapply (Entails.of_eq (show (iprop(∃ X, owns (c : Thread nD τ) zbM fullShare X) : sProp 𝕄) = pay m ρ .bar _ 0 2 from by
        rw [dev_zp c]; show _ = iprop(∃ X, owns (zp (zp c) : Thread nD τ) zbM fullShare X); rw [zp_zp])) $$ Hz
    iapply (recs_reached m ρ K .bar _) $$ HR
  iintro HO
  iapply (wp_take3 m ρ K c .bar 1 (dues.drop 3) (wpE_semWait_eq 𝒱₀ (c : Thread nD τ) none Set.univ) (k' := 3) rfl rfl (by decide) (by decide)) $$ [HO Hc1 Hc2 Hc3 Hb]
  · isplitr; · iexact HR
    isplitl [Hc1 Hc2 Hc3]
    · isplitl [Hc1]; · iexact Hc1
      isplitl [Hc2]; · iexact Hc2
      iexact Hc3
    isplitl [HO]; · iexact HO
    iexact Hb
  iintro ⟨HO, Hb, Hp1, Hp2, Hp3⟩
  iapply (load_all c xM zero2 fullShare X) $$ HX; iintro HX
  iapply (load_all c rM zero2 fullShare R) $$ HRt; iintro HRt
  iapply (load_col c I 0) $$ HI; iintro HI
  ihave Hp1' := (Entails.of_eq (show pay m ρ .bar c 0 0 = any (F := F) (dst true c) (slotM true (sl 1)) from rfl)) $$ Hp1
  ihave Hp2' := (Entails.of_eq (show pay m ρ .bar c 0 1 = any (F := F) (dst false c) (slotM false (sl 1)) from rfl)) $$ Hp2
  ihave Hp3' := (Entails.of_eq (show pay m ρ .bar c 0 2 = any (F := F) (zp c) zbM from rfl)) $$ Hp3
  unfold any
  iapply (done c _ rfl)
  iapply Hk $$ HO Hb [Hp1'] [Hp2'] Hp3' HX HRt HI
  · unfold credit
    isplitl [Hp1']; · iexact Hp1'
    iapply (recs_reached m ρ K (.rcv true (sl 1)) (dst true c)) $$ HR
  · unfold credit
    isplitl [Hp2']; · iexact Hp2'
    iapply (recs_reached m ρ K (.rcv false (sl 1)) (dst false c)) $$ HR

end Cert.KernelIdeal.Exchange
-- ==== Proof.Part2.lean ====
/-
# The kernel's parts: the first and second hop

Each part of the kernel as a rule: what it takes, what it leaves, at a symbolic device.
-/
module

public import proofs.«01_k».proof.Proof.Part1

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Kd → ℕ) (c : Dev nD)

variable {v2 v3 v4 v7 v11 v13 v60 w : BitVec 32} {v27 v29 : IVec S1024x1 32} {v42 v44 : FVec F S1024 .f32} {v45 : FVec F S1024x512 .bf16}
  {A B : FVec F S1024x1024 .f32}

/-- The second part: the second choices, and the own experts laid into the ring's first slots and the partner's block. -/
theorem part2 (I : Vec F S1024x2 .i32) (E : Vec F S4x512x1024 .f32) {v22 : FVec F S1024x512 .f32} {v25 : FVec F S1024x32 .f32} {v26 : Vec F S1024x1 .i32}
    {Q : (Σ' (v27 : IVec S1024x1 32) (v29 : IVec S1024x1 32) (v42 : FVec F S1024 .f32) (v44 : FVec F S1024 .f32) (v45 : FVec F S1024x512 .bf16) (v60 : BitVec 32), BitVec 32) → sProp 𝕄} :
    owns (c : Thread nD τ) iM fullShare I ⊢ iprop(owns (c : Thread nD τ) eM fullShare E
      -∗ any (F := F) c (slotM true 0) -∗ any (F := F) c (slotM false 0) -∗ any (F := F) c zsM
      -∗ (owns (c : Thread nD τ) iM fullShare I -∗ owns (c : Thread nD τ) eM fullShare E
          -∗ owns (c : Thread nD τ) (slotM true 0) fullShare (dn (k0_pay9 E)) -∗ owns (c : Thread nD τ) (slotM false 0) fullShare (dn (k0_pay10 E))
          -∗ owns (c : Thread nD τ) zsM fullShare (k0_pay11 E)
          -∗ Q ⟨k0_pay3 v26, k0_pay4 (col I 1 inb_S1024x2_S1024x1_0_1), k0_pay5 v25 v26 (col I 1 inb_S1024x2_S1024x1_0_1),
              k0_pay6 v25 v26 (col I 1 inb_S1024x2_S1024x1_0_1), k0_pay7 v22, Scalar.muli v13 1#32, 0#32⟩)
      -∗ WP c (onBufs (k0_part2 (F := F)) v13 v22 v25 v26) Q) := by
  simp only [k0_part2_eq_skeleton]; unfold k0_part2_skel
  simp only [Prog.lift, Prog.bind_op, Prog.bind_ret, Prog.pure_eq_ret, Prog.bind_assoc]
  unfold any
  iintro HI HE ⟨%S0, H0⟩ ⟨%S1, H1⟩ ⟨%Z, HZ⟩ Hk
  iapply (load_col c I 1) $$ HI; iintro HI
  iapply (load_all c eM zero3 fullShare E) $$ HE; iintro HE
  iapply (load_slot c true 0 fullShare S0) $$ H0; iintro H0
  iapply (store_slot c true 0 S0) $$ H0; iintro H0
  iapply (load_slot c false 0 fullShare S1) $$ H1; iintro H1
  iapply (store_slot c false 0 S1) $$ H1; iintro H1
  iapply (load_all c zsM zero3 fullShare Z) $$ HZ; iintro HZ
  iapply (store_all c zsM zero3 Z) $$ HZ; iintro HZ
  iapply (done c _ rfl)
  iapply Hk $$ HI HE H0 H1 HZ

/-- The third part: the block sent to the partner, the first hop sent both ways. -/
theorem part3 (E : Vec F S4x512x1024 .f32)
    {Q : (Σ' (v83 : FVec F S4x512x1024 .f32) (v87 : IVec S1x4 32) (v88 : FVec F S1024x1 .f32), IVec S1024x4 32) → sProp 𝕄} :
    recs m ρ K ⊢ iprop(Owes (F := F) (dues.drop 3) c -∗ owns (c : Thread nD τ) zsM fullShare (zC m ρ c) -∗ any (F := F) (zp c) zbM
      -∗ tok (F := F) ⟨.S, .zs, 0, 0, 0⟩ c -∗ tok (F := F) ⟨.Z, .zr, 0, 0, 2⟩ c -∗ ready m ρ true 1 c -∗ ready m ρ false 1 c -∗ owns (c : Thread nD τ) eM fullShare E
      -∗ (Owes (F := F) (dues.drop 6) c -∗ cred (tallyAt (cell .zs c) 0 (amt .zs))
          -∗ flying (F := F) true 1 c -∗ owns (c : Thread nD τ) (slotM true (sl (1 + 1))) fullShare.right (con m ρ true (1 - 1) c)
          -∗ flying (F := F) false 1 c -∗ owns (c : Thread nD τ) (slotM false (sl (1 + 1))) fullShare.right (con m ρ false (1 - 1) c)
          -∗ owns (c : Thread nD τ) eM fullShare E -∗ Q ⟨k0_pay12 E, k0_pay13 v2, k0_pay14 v42, k0_pay15 v27⟩)
      -∗ WP c (onBufs (k0_part3 (F := F)) c v2 v7 v11 v27 v42 v60 w) Q) := by
  simp only [k0_part3_eq_skeleton]; unfold k0_part3_skel
  simp only [Prog.lift, Prog.bind_op, Prog.bind_ret, Prog.pure_eq_ret, Prog.bind_assoc]
  iintro #HR HO HZ HB Ht Ht' HT HF HE Hk
  iapply (goz m ρ K c _ (dues.drop 3) (dues.drop 4) rfl (dev_zp c) rfl rfl rfl rfl) $$ HR HZ HB Ht Ht' HO; iintro Hc HO
  iapply (go m ρ K true 1 (by decide) (by decide) (by decide) c _ (dues.drop 4) (dues.drop 5) rfl (dev_rt c) rfl rfl rfl rfl) $$ HR HT HO
  iintro HT HT' HO
  iapply (go m ρ K false 1 (by decide) (by decide) (by decide) c _ (dues.drop 5) (dues.drop 6) rfl (dev_lf c) rfl rfl rfl rfl) $$ HR HF HO
  iintro HF HF' HO
  iapply (load_all c eM zero3 fullShare E) $$ HE; iintro HE
  iapply (done c _ rfl)
  iapply Hk $$ HO Hc HT HT' HF HF' HE

/-- The fourth part: the own experts' share of the result, and the rightward send over. -/
theorem part4 (O : Vec F S1024x1024 .f32) {v83 : FVec F S4x512x1024 .f32} {v87 : IVec S1x4 32} {v88 : FVec F S1024x1 .f32} {v89 : IVec S1024x4 32} {Q : PUnit → sProp 𝕄} :
    recs m ρ K ⊢ iprop(Owes (F := F) (dues.drop 6) c -∗ owns (c : Thread nD τ) oM fullShare O
      -∗ flying (F := F) true 1 c -∗ owns (c : Thread nD τ) (slotM true (sl (1 + 1))) fullShare.right (con m ρ true (1 - 1) c)
      -∗ (Owes (F := F) (dues.drop 6) c -∗ owns (c : Thread nD τ) oM fullShare (k0_pay16 v29 v44 v45 v83 v87 v88 v89) -∗ backed (F := F) true 1 c -∗ Q ⟨⟩)
      -∗ WP c (onBufs (k0_part4 (F := F)) v7 v29 v44 v45 v83 v87 v88 v89) Q) := by
  simp only [k0_part4_eq_skeleton]; unfold k0_part4_skel
  simp only [Prog.lift, Prog.bind_op, Prog.bind_ret, Prog.pure_eq_ret, Prog.bind_assoc]
  iintro #HR HO Ho HT HT' Hk
  iapply (load_all c oM zero2 fullShare O) $$ Ho; iintro Ho
  iapply (store_all c oM zero2 O) $$ Ho; iintro Ho
  iapply (sent m ρ K true 1 (by decide) (by decide) (by decide) c (dues.drop 6) (by decide) rfl (credit_slot true 0)) $$ HR HT HT' HO
  iintro HT HO
  iapply (done c _ rfl)
  iapply Hk $$ HO Ho HT

/-- The fifth part: the first hop over both ways, the slots behind freed. -/
theorem part5 {Q : PUnit → sProp 𝕄} :
    recs m ρ K ⊢ iprop(Owes (F := F) (dues.drop 6) c -∗ backed (F := F) true 1 c
      -∗ flying (F := F) false 1 c -∗ owns (c : Thread nD τ) (slotM false (sl (1 + 1))) fullShare.right (con m ρ false (1 - 1) c)
      -∗ (Owes (F := F) (dues.drop 8) c -∗ freed m ρ true 1 c -∗ freed m ρ false 1 c -∗ Q ⟨⟩)
      -∗ WP c (onBufs (k0_part5 (F := F)) c v7 v11) Q) := by
  simp only [k0_part5_eq_skeleton]; unfold k0_part5_skel
  simp only [semSignalWord, semWaitWord, Prog.lift, Prog.bind_op, Prog.bind_ret, Prog.pure_eq_ret, Prog.bind_assoc]
  iintro #HR HO HT HF HF' Hk
  iapply (came m ρ K true 1 (by decide) (by decide) c (dues.drop 6) (by decide) rfl (credit_slot true 1)) $$ HR HT HO; iintro HT HO
  iapply (sent m ρ K false 1 (by decide) (by decide) (by decide) c (dues.drop 6) (by decide) rfl (credit_slot false 0)) $$ HR HF HF' HO; iintro HF HO
  iapply (came m ρ K false 1 (by decide) (by decide) c (dues.drop 6) (by decide) rfl (credit_slot false 1)) $$ HR HF HO; iintro HF HO
  iapply (free m ρ K true 1 (by decide) (by decide) c _ (dues.drop 6) (dues.drop 7) rfl (dev_lf c) rfl) $$ HR HT HO; iintro HT HO
  iapply (free m ρ K false 1 (by decide) (by decide) c _ (dues.drop 7) (dues.drop 8) rfl (dev_rt c) rfl) $$ HR HF HO; iintro HF HO
  iapply (done c _ rfl)
  iapply Hk $$ HO HT HF

/-- The sixth part: the second hop sent both ways. -/
theorem part6 (O : Vec F S1024x1024 .f32) {Q : FVec F S1024x1024 .f32 → sProp 𝕄} :
    recs m ρ K ⊢ iprop(Owes (F := F) (dues.drop 8) c -∗ freed m ρ true 1 c -∗ freed m ρ false 1 c -∗ owns (c : Thread nD τ) oM fullShare O
      -∗ (Owes (F := F) (dues.drop 10) c -∗ owns (c : Thread nD τ) oM fullShare O
          -∗ flying (F := F) true 2 c -∗ owns (c : Thread nD τ) (slotM true (sl (2 + 1))) fullShare.right (con m ρ true (2 - 1) c)
          -∗ flying (F := F) false 2 c -∗ owns (c : Thread nD τ) (slotM false (sl (2 + 1))) fullShare.right (con m ρ false (2 - 1) c)
          -∗ Q (k0_pay17 O))
      -∗ WP c (onBufs (k0_part6 (F := F)) c v7 v11) Q) := by
  simp only [k0_part6_eq_skeleton]; unfold k0_part6_skel
  simp only [semSignalWord, semWaitWord, Prog.lift, Prog.bind_op, Prog.bind_ret, Prog.pure_eq_ret, Prog.bind_assoc]
  iintro #HR HO HT HF Ho Hk
  iapply (may m ρ K true 1 (by decide) (by decide) c (dues.drop 8) (by decide) rfl) $$ HR HT HO; iintro HT HO
  iapply (may m ρ K false 1 (by decide) (by decide) c (dues.drop 8) (by decide) rfl) $$ HR HF HO; iintro HF HO
  iapply (go m ρ K true 2 (by decide) (by decide) (by decide) c _ (dues.drop 8) (dues.drop 9) rfl (dev_rt c) rfl rfl rfl rfl) $$ HR HT HO; iintro HT HT' HO
  iapply (go m ρ K false 2 (by decide) (by decide) (by decide) c _ (dues.drop 9) (dues.drop 10) rfl (dev_lf c) rfl rfl rfl rfl) $$ HR HF HO; iintro HF HF' HO
  iapply (load_all c oM zero2 fullShare O) $$ Ho; iintro Ho
  iapply (done c _ rfl)
  iapply Hk $$ HO Ho HT HT' HF HF'

/-- The seventh part: what the first hop brought from the left, into the result. -/
theorem part7 (O : Vec F S1024x1024 .f32) (q q' : PosShare TreeShare) (X X' : Vec F S2x512x1024 .bf16)
    {Q : (Σ' (v209 : FVec F S1024x1024 .f32) (v211 : FVec F S2x512x1024 .bf16), BitVec 32) → sProp 𝕄} :
    owns (c : Thread nD τ) oM fullShare O ⊢ iprop(owns (c : Thread nD τ) (slotM true (sl (2 + 1))) q X -∗ owns (c : Thread nD τ) (slotM false (sl (2 + 1))) q' X'
      -∗ (owns (c : Thread nD τ) oM fullShare (k0_pay18 v3 v4 v27 v29 v42 v44 v45 A (up X))
          -∗ owns (c : Thread nD τ) (slotM true (sl (2 + 1))) q X -∗ owns (c : Thread nD τ) (slotM false (sl (2 + 1))) q' X'
          -∗ Q ⟨k0_pay19 (k0_pay18 v3 v4 v27 v29 v42 v44 v45 A (up X)), k0_pay20 (up X'), Scalar.remsi (Scalar.addi v3 1#32) 4#32⟩)
      -∗ WP c (onBufs (k0_part7 (F := F)) v3 v4 v27 v29 v42 v44 v45 A) Q) := by
  simp only [k0_part7_eq_skeleton]; unfold k0_part7_skel
  simp only [Prog.lift, Prog.bind_op, Prog.bind_ret, Prog.pure_eq_ret, Prog.bind_assoc]
  iintro Ho HT HF Hk
  iapply (load_slot c true (sl (2 + 1)) q X) $$ HT; iintro HT
  iapply (load_all c oM zero2 fullShare O) $$ Ho; iintro Ho
  iapply (store_all c oM zero2 O) $$ Ho; iintro Ho
  iapply (load_all c oM zero2 fullShare _) $$ Ho; iintro Ho
  iapply (load_slot c false (sl (2 + 1)) q' X') $$ HF; iintro HF
  iapply (done c _ rfl)
  iapply Hk $$ Ho HT HF

/-- The eighth part: what the first hop brought from the right, into the result; and the rightward send over. -/
theorem part8 (O : Vec F S1024x1024 .f32) {v211 : FVec F S2x512x1024 .bf16} {Q : PUnit → sProp 𝕄} :
    recs m ρ K ⊢ iprop(Owes (F := F) (dues.drop 10) c -∗ owns (c : Thread nD τ) oM fullShare O
      -∗ flying (F := F) true 2 c -∗ owns (c : Thread nD τ) (slotM true (sl (2 + 1))) fullShare.right (con m ρ true (2 - 1) c)
      -∗ (Owes (F := F) (dues.drop 10) c -∗ owns (c : Thread nD τ) oM fullShare (k0_pay21 v4 v27 v29 v42 v44 v45 A v211 w) -∗ backed (F := F) true 2 c -∗ Q ⟨⟩)
      -∗ WP c (onBufs (k0_part8 (F := F)) v4 v27 v29 v42 v44 v45 A v211 w) Q) := by
  simp only [k0_part8_eq_skeleton]; unfold k0_part8_skel
  simp only [Prog.lift, Prog.bind_op, Prog.bind_ret, Prog.pure_eq_ret, Prog.bind_assoc]
  iintro #HR HO Ho HT HT' Hk
  iapply (load_all c oM zero2 fullShare O) $$ Ho; iintro Ho
  iapply (store_all c oM zero2 O) $$ Ho; iintro Ho
  iapply (sent m ρ K true 2 (by decide) (by decide) (by decide) c (dues.drop 10) (by decide) rfl (credit_slot true 1)) $$ HR HT HT' HO; iintro HT HO
  iapply (done c _ rfl)
  iapply Hk $$ HO Ho HT

/-- The ninth part: the second hop over both ways. -/
theorem part9 {Q : BitVec 32 → sProp 𝕄} :
    recs m ρ K ⊢ iprop(Owes (F := F) (dues.drop 10) c -∗ backed (F := F) true 2 c
      -∗ flying (F := F) false 2 c -∗ owns (c : Thread nD τ) (slotM false (sl (2 + 1))) fullShare.right (con m ρ false (2 - 1) c)
      -∗ (Owes (F := F) (dues.drop 10) c -∗ landedAt m ρ true 2 c -∗ landedAt m ρ false 2 c -∗ Q 1#32)
      -∗ WP c (onBufs (k0_part9 (F := F)) v7 v11) Q) := by
  simp only [k0_part9_eq_skeleton]; unfold k0_part9_skel
  simp only [Prog.lift, Prog.bind_op, Prog.bind_ret, Prog.pure_eq_ret, Prog.bind_assoc]
  iintro #HR HO HT HF HF' Hk
  iapply (came m ρ K true 2 (by decide) (by decide) c (dues.drop 10) (by decide) rfl (credit_slot true 0)) $$ HR HT HO; iintro HT HO
  iapply (sent m ρ K false 2 (by decide) (by decide) (by decide) c (dues.drop 10) (by decide) rfl (credit_slot false 1)) $$ HR HF HF' HO; iintro HF HO
  iapply (came m ρ K false 2 (by decide) (by decide) c (dues.drop 10) (by decide) rfl (credit_slot false 0)) $$ HR HF HO; iintro HF HO
  iapply (done c _ rfl)
  iapply Hk $$ HO HT HF

end Cert.KernelIdeal.Exchange
-- ==== Proof.Part3.lean ====
module

public import proofs.«01_k».proof.Proof.Part2

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Kd → ℕ) (c : Dev nD)
variable {v2 v3 v4 v7 v11 v13 v60 c0 c1 w : BitVec 32} {v27 v29 : IVec S1024x1 32} {v42 v44 : FVec F S1024 .f32} {v45 : FVec F S1024x512 .bf16} {A B : FVec F S1024x1024 .f32}
  {B2 : FVec F S2x512x1024 .bf16} {P P' : FVec F S1024x2 .f32} {N : FVec F S1024x2 .bf16} {M M' : FVec F S1024x1024 .bf16} {I2 : IVec S1x2 32}

/-- The tenth part: both slots are freed, both grants awaited, the third rightward send leaves. -/
theorem part10 {Q : PUnit → sProp 𝕄} :
    recs m ρ K ⊢ iprop(Owes (F := F) (dues.drop 10) c
      -∗ landedAt m ρ true 2 c
      -∗ landedAt m ρ false 2 c
      -∗ (Owes (F := F) (dues.drop 13) c -∗ flying (F := F) true 3 c -∗ owns (c : Thread nD τ) (slotM true (sl (3 + 1))) fullShare.right (con m ρ true (3 - 1) c) -∗ ready m ρ false 3 c -∗ Q ⟨⟩)
      -∗ WP c (onBufs (k0_part10 (F := F)) c v7 v11 c1) Q) := by
  simp only [k0_part10_eq_skeleton]; unfold k0_part10_skel
  simp only [semSignalWord, semWaitWord, Prog.lift, Prog.bind_op, Prog.bind_ret, Prog.pure_eq_ret, Prog.bind_assoc]
  iintro #HR HO HT HF Hk
  iapply (free m ρ K true 2 (by decide) (by decide) c _ (dues.drop 10) (dues.drop 11) rfl (dev_lf c) rfl) $$ HR HT HO; iintro HT HO
  iapply (free m ρ K false 2 (by decide) (by decide) c _ (dues.drop 11) (dues.drop 12) rfl (dev_rt c) rfl) $$ HR HF HO; iintro HF HO
  iapply (may m ρ K true 2 (by decide) (by decide) c (dues.drop 12) (by decide) rfl) $$ HR HT HO; iintro HT HO
  iapply (may m ρ K false 2 (by decide) (by decide) c (dues.drop 12) (by decide) rfl) $$ HR HF HO; iintro HF HO
  iapply (go m ρ K true 3 (by decide) (by decide) (by decide) c _ (dues.drop 12) (dues.drop 13) rfl (dev_rt c) rfl rfl rfl rfl) $$ HR HT HO; iintro HT HT' HO
  iapply (done c _ rfl)
  iapply Hk $$ HO HT HT' HF

/-- The eleventh part: the third leftward send leaves; what the second hop brought from the left, into the result. -/
theorem part11 (O : Vec F S1024x1024 .f32) {Q : FVec F S1024x1024 .f32 → sProp 𝕄} :
    recs m ρ K ⊢ iprop(Owes (F := F) (dues.drop 13) c
      -∗ owns (c : Thread nD τ) oM fullShare O
      -∗ owns (c : Thread nD τ) (slotM true (sl (3 + 1))) fullShare.right (con m ρ true (3 - 1) c)
      -∗ ready m ρ false 3 c
      -∗ (Owes (F := F) (dues.drop 14) c -∗ owns (c : Thread nD τ) oM fullShare (k0_pay22 v3 v4 v27 v29 v42 v44 v45 O (up (con m ρ true (3 - 1) c))) -∗ owns (c : Thread nD τ) (slotM true (sl (3 + 1))) fullShare.right (con m ρ true (3 - 1) c) -∗ flying (F := F) false 3 c -∗ owns (c : Thread nD τ) (slotM false (sl (3 + 1))) fullShare.right (con m ρ false (3 - 1) c) -∗ Q (k0_pay23 (k0_pay22 v3 v4 v27 v29 v42 v44 v45 O (up (con m ρ true (3 - 1) c)))))
      -∗ WP c (onBufs (k0_part11 (F := F)) c v3 v4 v27 v29 v42 v44 v45) Q) := by
  simp only [k0_part11_eq_skeleton]; unfold k0_part11_skel
  simp only [Prog.lift, Prog.bind_op, Prog.bind_ret, Prog.pure_eq_ret, Prog.bind_assoc]
  iintro #HR HO Ho HT' HF Hk
  iapply (go m ρ K false 3 (by decide) (by decide) (by decide) c _ (dues.drop 13) (dues.drop 14) rfl (dev_lf c) rfl rfl rfl rfl) $$ HR HF HO; iintro HF HF' HO
  iapply (load_all c oM zero2 fullShare O) $$ Ho; iintro Ho
  iapply (load_slot c true (sl (3 + 1)) fullShare.right (con m ρ true (3 - 1) c)) $$ HT'; iintro HT'
  iapply (load_all c oM zero2 fullShare O) $$ Ho; iintro Ho
  iapply (store_all c oM zero2 O) $$ Ho; iintro Ho
  iapply (load_all c oM zero2 fullShare _) $$ Ho; iintro Ho
  iapply (done c _ rfl)
  iapply Hk $$ HO Ho HT' HF HF'

/-- The twelfth part: what the second hop brought from the right, into the result. -/
theorem part12 (O : Vec F S1024x1024 .f32) (q : PosShare TreeShare) (X : Vec F S2x512x1024 .bf16) {Q : PUnit → sProp 𝕄} :
    owns (c : Thread nD τ) oM fullShare O ⊢ iprop(owns (c : Thread nD τ) (slotM false (sl (3 + 1))) q X
      -∗ (owns (c : Thread nD τ) oM fullShare (k0_pay24 v3 v4 v27 v29 v42 v44 v45 A (up X)) -∗ owns (c : Thread nD τ) (slotM false (sl (3 + 1))) q X -∗ Q ⟨⟩)
      -∗ WP c (onBufs (k0_part12 (F := F)) v3 v4 v27 v29 v42 v44 v45 A) Q) := by
  simp only [k0_part12_eq_skeleton]; unfold k0_part12_skel
  simp only [Prog.lift, Prog.bind_op, Prog.bind_ret, Prog.pure_eq_ret, Prog.bind_assoc]
  iintro Ho HF Hk
  iapply (load_slot c false (sl (3 + 1)) q X) $$ HF; iintro HF
  iapply (load_all c oM zero2 fullShare O) $$ Ho; iintro Ho
  iapply (store_all c oM zero2 O) $$ Ho; iintro Ho
  iapply (done c _ rfl)
  iapply Hk $$ Ho HF

/-- The thirteenth part: the third rightward hop over, the leftward send back. -/
theorem part13 {Q : PUnit → sProp 𝕄} :
    recs m ρ K ⊢ iprop(Owes (F := F) (dues.drop 14) c
      -∗ flying (F := F) true 3 c
      -∗ owns (c : Thread nD τ) (slotM true (sl (3 + 1))) fullShare.right (con m ρ true (3 - 1) c)
      -∗ flying (F := F) false 3 c
      -∗ owns (c : Thread nD τ) (slotM false (sl (3 + 1))) fullShare.right (con m ρ false (3 - 1) c)
      -∗ (Owes (F := F) (dues.drop 14) c -∗ landedAt m ρ true 3 c -∗ backed (F := F) false 3 c -∗ Q ⟨⟩)
      -∗ WP c (onBufs (k0_part13 (F := F)) v7 v11) Q) := by
  simp only [k0_part13_eq_skeleton]; unfold k0_part13_skel
  simp only [Prog.lift, Prog.bind_op, Prog.bind_ret, Prog.pure_eq_ret, Prog.bind_assoc]
  iintro #HR HO HT HT' HF HF' Hk
  iapply (sent m ρ K true 3 (by decide) (by decide) (by decide) c (dues.drop 14) (by decide) rfl (credit_slot true 0)) $$ HR HT HT' HO; iintro HT HO
  iapply (came m ρ K true 3 (by decide) (by decide) c (dues.drop 14) (by decide) rfl (credit_slot true 1)) $$ HR HT HO; iintro HT HO
  iapply (sent m ρ K false 3 (by decide) (by decide) (by decide) c (dues.drop 14) (by decide) rfl (credit_slot false 0)) $$ HR HF HF' HO; iintro HF HO
  iapply (done c _ rfl)
  iapply Hk $$ HO HT HF

/-- The fourteenth part: the third leftward hop over, both slots freed, both grants in; the partner's block arrives, and its first half leaves rightward. -/
theorem part14 {Q : PUnit → sProp 𝕄} :
    recs m ρ K ⊢ iprop(Owes (F := F) (dues.drop 14) c
      -∗ landedAt m ρ true 3 c
      -∗ backed (F := F) false 3 c
      -∗ cred (tallyAt (cell .zr c) 2 (amt .zr))
      -∗ posn (F := F) .zr c 0
      -∗ (Owes (F := F) (dues.drop 17) c -∗ flying (F := F) true 4 c -∗ owns (c : Thread nD τ) (slotM true (sl (4 + 1))) fullShare (con m ρ true (4 - 1) c) -∗ ready m ρ false 4 c -∗ posn (F := F) .zr c 1 -∗ owns (c : Thread nD τ) zbM fullShare.right (zC m ρ (zp c)) -∗ owns (c : Thread nD τ) (zhM false) fullShare.left (half false (zC m ρ (zp c))) -∗ Q ⟨⟩)
      -∗ WP c (onBufs (k0_part14 (F := F)) c v7 v11 v13) Q) := by
  simp only [k0_part14_eq_skeleton]; unfold k0_part14_skel
  simp only [semSignalWord, semWaitWord, Prog.lift, Prog.bind_op, Prog.bind_ret, Prog.pure_eq_ret, Prog.bind_assoc]
  iintro #HR HO HT HF HC HP Hk
  iapply (came m ρ K false 3 (by decide) (by decide) c (dues.drop 14) (by decide) rfl (credit_slot false 1)) $$ HR HF HO; iintro HF HO
  iapply (free m ρ K true 3 (by decide) (by decide) c _ (dues.drop 14) (dues.drop 15) rfl (dev_lf c) rfl) $$ HR HT HO; iintro HT HO
  iapply (free m ρ K false 3 (by decide) (by decide) c _ (dues.drop 15) (dues.drop 16) rfl (dev_rt c) rfl) $$ HR HF HO; iintro HF HO
  iapply (may m ρ K true 3 (by decide) (by decide) c (dues.drop 16) (by decide) rfl) $$ HR HT HO; iintro HT HO
  iapply (may m ρ K false 3 (by decide) (by decide) c (dues.drop 16) (by decide) rfl) $$ HR HF HO; iintro HF HO
  iapply (camez m ρ K c (dues.drop 16) (by decide) rfl rfl) $$ HR HC HP HO; iintro HP HZ HTz HFz HO
  iapply (go4 m ρ K true c _ (dues.drop 16) (dues.drop 17) rfl (dev_rt c) rfl rfl rfl rfl) $$ HR HT HTz HO; iintro HT HT' HO
  iapply (done c _ rfl)
  iapply Hk $$ HO HT HT' HF HP HZ HFz

/-- The fifteenth part: the partner's second half leaves leftward; the third hop's block from the left is read. -/
theorem part15 (O : Vec F S1024x1024 .f32) {Q : (Σ' (v433 : FVec F S1024x1024 .f32) (v467 : FVec F S1024x1024 .bf16), FVec F S1024x1024 .bf16) → sProp 𝕄} :
    recs m ρ K ⊢ iprop(Owes (F := F) (dues.drop 17) c
      -∗ owns (c : Thread nD τ) oM fullShare O
      -∗ owns (c : Thread nD τ) (slotM true (sl (4 + 1))) fullShare (con m ρ true (4 - 1) c)
      -∗ ready m ρ false 4 c
      -∗ owns (c : Thread nD τ) (zhM false) fullShare.left (half false (zC m ρ (zp c)))
      -∗ (Owes (F := F) (dues.drop 18) c -∗ owns (c : Thread nD τ) oM fullShare O -∗ owns (c : Thread nD τ) (slotM true (sl (4 + 1))) fullShare (con m ρ true (4 - 1) c) -∗ flying (F := F) false 4 c -∗ owns (c : Thread nD τ) (slotM false (sl (4 + 1))) fullShare (con m ρ false (4 - 1) c) -∗ Q ⟨k0_pay25 O, k0_pay26 v3 v4 v27 v29 v42 v44 v45, k0_pay27 (up (con m ρ true (4 - 1) c))⟩)
      -∗ WP c (onBufs (k0_part15 (F := F)) c v3 v4 v27 v29 v42 v44 v45) Q) := by
  simp only [k0_part15_eq_skeleton]; unfold k0_part15_skel
  simp only [Prog.lift, Prog.bind_op, Prog.bind_ret, Prog.pure_eq_ret, Prog.bind_assoc]
  iintro #HR HO Ho HT' HF HFz Hk
  iapply (go4 m ρ K false c _ (dues.drop 17) (dues.drop 18) rfl (dev_lf c) rfl rfl rfl rfl) $$ HR HF HFz HO; iintro HF HF' HO
  iapply (load_all c oM zero2 fullShare O) $$ Ho; iintro Ho
  iapply (load_slot c true (sl (4 + 1)) fullShare (con m ρ true (4 - 1) c)) $$ HT'; iintro HT'
  iapply (done c _ rfl)
  iapply Hk $$ HO Ho HT' HF HF'

/-- The sixteenth part: the third hop's block from the left into the result, the one from the right read. -/
theorem part16 (O : Vec F S1024x1024 .f32) (q : PosShare TreeShare) (X : Vec F S2x512x1024 .bf16) {Q : FVec F S1024x1024 .f32 → sProp 𝕄} :
    owns (c : Thread nD τ) oM fullShare O ⊢ iprop(owns (c : Thread nD τ) (slotM false (sl (4 + 1))) q X
      -∗ (owns (c : Thread nD τ) oM fullShare (k0_pay28 A M M') -∗ owns (c : Thread nD τ) (slotM false (sl (4 + 1))) q X -∗ Q (k0_pay29 v3 v4 v27 v29 v42 v44 v45 (k0_pay28 A M M') (up X)))
      -∗ WP c (onBufs (k0_part16 (F := F)) v3 v4 v27 v29 v42 v44 v45 A M M') Q) := by
  simp only [k0_part16_eq_skeleton]; unfold k0_part16_skel
  simp only [Prog.lift, Prog.bind_op, Prog.bind_ret, Prog.pure_eq_ret, Prog.bind_assoc]
  iintro Ho HF Hk
  iapply (load_all c oM zero2 fullShare O) $$ Ho; iintro Ho
  iapply (store_all c oM zero2 O) $$ Ho; iintro Ho
  iapply (load_all c oM zero2 fullShare _) $$ Ho; iintro Ho
  iapply (load_slot c false (sl (4 + 1)) q X) $$ HF; iintro HF
  iapply (load_all c oM zero2 fullShare _) $$ Ho; iintro Ho
  iapply (done c _ rfl)
  iapply Hk $$ Ho HF

/-- The seventeenth part: the third hop's block from the right, then the partner's own block, into the result. -/
theorem part17 (O : Vec F S1024x1024 .f32) (q : PosShare TreeShare) (Z : Vec F S4x512x1024 .bf16) {Q : PUnit → sProp 𝕄} :
    owns (c : Thread nD τ) oM fullShare O ⊢ iprop(owns (c : Thread nD τ) zbM q Z
      -∗ (owns (c : Thread nD τ) oM fullShare (k0_pay30 v13 v27 v29 v42 v44 v45 B Z) -∗ owns (c : Thread nD τ) zbM q Z -∗ Q ⟨⟩)
      -∗ WP c (onBufs (k0_part17 (F := F)) v13 v27 v29 v42 v44 v45 B) Q) := by
  simp only [k0_part17_eq_skeleton]; unfold k0_part17_skel
  simp only [Prog.lift, Prog.bind_op, Prog.bind_ret, Prog.pure_eq_ret, Prog.bind_assoc]
  iintro Ho HZ Hk
  iapply (store_all c oM zero2 O) $$ Ho; iintro Ho
  iapply (load_all c oM zero2 fullShare _) $$ Ho; iintro Ho
  iapply (load_all c zbM zero3 q Z) $$ HZ; iintro HZ
  iapply (load_all c oM zero2 fullShare _) $$ Ho; iintro Ho
  iapply (store_all c oM zero2 _) $$ Ho; iintro Ho
  iapply (done c _ rfl)
  iapply Hk $$ Ho HZ

end Cert.KernelIdeal.Exchange
-- ==== Proof.Part4.lean ====
module

public import proofs.«01_k».proof.Proof.Part3

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Kd → ℕ) (c : Dev nD)
variable {v2 v3 v4 v7 v11 v13 v60 c0 c1 w : BitVec 32} {v27 v29 : IVec S1024x1 32} {v42 v44 : FVec F S1024 .f32} {v45 : FVec F S1024x512 .bf16} {A B : FVec F S1024x1024 .f32}
  {B2 : FVec F S2x512x1024 .bf16} {P P' : FVec F S1024x2 .f32} {N : FVec F S1024x2 .bf16} {M M' : FVec F S1024x1024 .bf16} {I2 : IVec S1x2 32}

/-- The eighteenth part: the fourth hop over both ways, the partner's halves back. -/
theorem part18 {Q : (Σ' (v0 : BitVec 32), BitVec 32) → sProp 𝕄} :
    recs m ρ K ⊢ iprop(Owes (F := F) (dues.drop 18) c
      -∗ flying (F := F) true 4 c
      -∗ owns (c : Thread nD τ) (slotM true (sl (4 + 1))) fullShare (con m ρ true (4 - 1) c)
      -∗ flying (F := F) false 4 c
      -∗ owns (c : Thread nD τ) (slotM false (sl (4 + 1))) fullShare (con m ρ false (4 - 1) c)
      -∗ (Owes (F := F) (dues.drop 18) c -∗ landedAt m ρ true 4 c -∗ owns (c : Thread nD τ) (zhM true) fullShare.left (half true (zC m ρ (zp c))) -∗ landedAt m ρ false 4 c -∗ owns (c : Thread nD τ) (zhM false) fullShare.left (half false (zC m ρ (zp c))) -∗ Q ⟨Scalar.muli v11 1#32, 0#32⟩)
      -∗ WP c (onBufs (k0_part18 (F := F)) v7 v11) Q) := by
  simp only [k0_part18_eq_skeleton]; unfold k0_part18_skel
  simp only [Prog.lift, Prog.bind_op, Prog.bind_ret, Prog.pure_eq_ret, Prog.bind_assoc]
  iintro #HR HO HT HT' HF HF' Hk
  iapply (sent4 m ρ K true c (dues.drop 18) (by decide) rfl (credit_half true)) $$ HR HT HT' HO; iintro HT HTz HO
  iapply (came m ρ K true 4 (by decide) (by decide) c (dues.drop 18) (by decide) rfl (credit_slot true 0)) $$ HR HT HO; iintro HT HO
  iapply (sent4 m ρ K false c (dues.drop 18) (by decide) rfl (credit_half false)) $$ HR HF HF' HO; iintro HF HFz HO
  iapply (came m ρ K false 4 (by decide) (by decide) c (dues.drop 18) (by decide) rfl (credit_slot false 0)) $$ HR HF HO; iintro HF HO
  iapply (done c _ rfl)
  iapply Hk $$ HO HT HTz HF HFz

/-- The nineteenth part: both slots freed, both grants in, both fifth sends leave. -/
theorem part19 {Q : PUnit → sProp 𝕄} :
    recs m ρ K ⊢ iprop(Owes (F := F) (dues.drop 18) c
      -∗ landedAt m ρ true 4 c
      -∗ landedAt m ρ false 4 c
      -∗ (Owes (F := F) (dues.drop 22) c -∗ flying (F := F) true 5 c -∗ owns (c : Thread nD τ) (slotM true (sl (5 + 1))) fullShare.right (con m ρ true (5 - 1) c) -∗ flying (F := F) false 5 c -∗ owns (c : Thread nD τ) (slotM false (sl (5 + 1))) fullShare.right (con m ρ false (5 - 1) c) -∗ Q ⟨⟩)
      -∗ WP c (onBufs (k0_part19 (F := F)) c v7 v11 w c0) Q) := by
  simp only [k0_part19_eq_skeleton]; unfold k0_part19_skel
  simp only [semSignalWord, semWaitWord, Prog.lift, Prog.bind_op, Prog.bind_ret, Prog.pure_eq_ret, Prog.bind_assoc]
  iintro #HR HO HT HF Hk
  iapply (free m ρ K true 4 (by decide) (by decide) c _ (dues.drop 18) (dues.drop 19) rfl (dev_lf c) rfl) $$ HR HT HO; iintro HT HO
  iapply (free m ρ K false 4 (by decide) (by decide) c _ (dues.drop 19) (dues.drop 20) rfl (dev_rt c) rfl) $$ HR HF HO; iintro HF HO
  iapply (may m ρ K true 4 (by decide) (by decide) c (dues.drop 20) (by decide) rfl) $$ HR HT HO; iintro HT HO
  iapply (may m ρ K false 4 (by decide) (by decide) c (dues.drop 20) (by decide) rfl) $$ HR HF HO; iintro HF HO
  iapply (go m ρ K true 5 (by decide) (by decide) (by decide) c _ (dues.drop 20) (dues.drop 21) rfl (dev_rt c) rfl rfl rfl rfl) $$ HR HT HO; iintro HT HT' HO
  iapply (go m ρ K false 5 (by decide) (by decide) (by decide) c _ (dues.drop 21) (dues.drop 22) rfl (dev_lf c) rfl rfl rfl rfl) $$ HR HF HO; iintro HF HF' HO
  iapply (done c _ rfl)
  iapply Hk $$ HO HT HT' HF HF'

/-- The twentieth part: the fourth hop's block from the left, into the result. -/
theorem part20 (O : Vec F S1024x1024 .f32) (q : PosShare TreeShare) (X : Vec F S2x512x1024 .bf16) {Q : PUnit → sProp 𝕄} :
    owns (c : Thread nD τ) oM fullShare O ⊢ iprop(owns (c : Thread nD τ) (slotM true (sl (5 + 1))) q X
      -∗ (owns (c : Thread nD τ) oM fullShare (k0_pay31 v3 v4 v27 v29 v42 v44 v45 O (up X)) -∗ owns (c : Thread nD τ) (slotM true (sl (5 + 1))) q X -∗ Q ⟨⟩)
      -∗ WP c (onBufs (k0_part20 (F := F)) v3 v4 v27 v29 v42 v44 v45) Q) := by
  simp only [k0_part20_eq_skeleton]; unfold k0_part20_skel
  simp only [Prog.lift, Prog.bind_op, Prog.bind_ret, Prog.pure_eq_ret, Prog.bind_assoc]
  iintro Ho HT Hk
  iapply (load_all c oM zero2 fullShare O) $$ Ho; iintro Ho
  iapply (load_slot c true (sl (5 + 1)) q X) $$ HT; iintro HT
  iapply (load_all c oM zero2 fullShare O) $$ Ho; iintro Ho
  iapply (store_all c oM zero2 O) $$ Ho; iintro Ho
  iapply (done c _ rfl)
  iapply Hk $$ Ho HT

/-- The twenty-first part: the fourth hop's block from the right, into the result. -/
theorem part21 (O : Vec F S1024x1024 .f32) (q : PosShare TreeShare) (X : Vec F S2x512x1024 .bf16) {Q : PUnit → sProp 𝕄} :
    owns (c : Thread nD τ) oM fullShare O ⊢ iprop(owns (c : Thread nD τ) (slotM false (sl (5 + 1))) q X
      -∗ (owns (c : Thread nD τ) oM fullShare (k0_pay32 v3 v4 v27 v29 v42 v44 v45 O (up X)) -∗ owns (c : Thread nD τ) (slotM false (sl (5 + 1))) q X -∗ Q ⟨⟩)
      -∗ WP c (onBufs (k0_part21 (F := F)) v3 v4 v27 v29 v42 v44 v45) Q) := by
  simp only [k0_part21_eq_skeleton]; unfold k0_part21_skel
  simp only [Prog.lift, Prog.bind_op, Prog.bind_ret, Prog.pure_eq_ret, Prog.bind_assoc]
  iintro Ho HT Hk
  iapply (load_all c oM zero2 fullShare O) $$ Ho; iintro Ho
  iapply (load_slot c false (sl (5 + 1)) q X) $$ HT; iintro HT
  iapply (load_all c oM zero2 fullShare O) $$ Ho; iintro Ho
  iapply (store_all c oM zero2 O) $$ Ho; iintro Ho
  iapply (done c _ rfl)
  iapply Hk $$ Ho HT

/-- The twenty-second part: the fifth rightward hop over, the leftward send back. -/
theorem part22 {Q : (Σ' (v0 : BitVec 32), BitVec 32) → sProp 𝕄} :
    recs m ρ K ⊢ iprop(Owes (F := F) (dues.drop 22) c
      -∗ flying (F := F) true 5 c
      -∗ owns (c : Thread nD τ) (slotM true (sl (5 + 1))) fullShare.right (con m ρ true (5 - 1) c)
      -∗ flying (F := F) false 5 c
      -∗ owns (c : Thread nD τ) (slotM false (sl (5 + 1))) fullShare.right (con m ρ false (5 - 1) c)
      -∗ (Owes (F := F) (dues.drop 22) c -∗ landedAt m ρ true 5 c -∗ backed (F := F) false 5 c -∗ Q ⟨Scalar.muli v11 1#32, 0#32⟩)
      -∗ WP c (onBufs (k0_part22 (F := F)) v7 v11) Q) := by
  simp only [k0_part22_eq_skeleton]; unfold k0_part22_skel
  simp only [Prog.lift, Prog.bind_op, Prog.bind_ret, Prog.pure_eq_ret, Prog.bind_assoc]
  iintro #HR HO HT HT' HF HF' Hk
  iapply (sent m ρ K true 5 (by decide) (by decide) (by decide) c (dues.drop 22) (by decide) rfl (credit_slot true 0)) $$ HR HT HT' HO; iintro HT HO
  iapply (came m ρ K true 5 (by decide) (by decide) c (dues.drop 22) (by decide) rfl (credit_slot true 1)) $$ HR HT HO; iintro HT HO
  iapply (sent m ρ K false 5 (by decide) (by decide) (by decide) c (dues.drop 22) (by decide) rfl (credit_slot false 0)) $$ HR HF HF' HO; iintro HF HO
  iapply (done c _ rfl)
  iapply Hk $$ HO HT HF

/-- The twenty-third part: the fifth leftward hop over, both slots freed, both grants in, the last rightward send leaves. -/
theorem part23 {Q : BitVec 32 → sProp 𝕄} :
    recs m ρ K ⊢ iprop(Owes (F := F) (dues.drop 22) c
      -∗ landedAt m ρ true 5 c
      -∗ backed (F := F) false 5 c
      -∗ (Owes (F := F) (dues.drop 25) c -∗ flying (F := F) true 6 c -∗ owns (c : Thread nD τ) (slotM true (sl (6 + 1))) fullShare.right (con m ρ true (6 - 1) c) -∗ ready m ρ false 6 c -∗ Q 1#32)
      -∗ WP c (onBufs (k0_part23 (F := F)) c v7 v11 w c0) Q) := by
  simp only [k0_part23_eq_skeleton]; unfold k0_part23_skel
  simp only [semSignalWord, semWaitWord, Prog.lift, Prog.bind_op, Prog.bind_ret, Prog.pure_eq_ret, Prog.bind_assoc]
  iintro #HR HO HT HF Hk
  iapply (came m ρ K false 5 (by decide) (by decide) c (dues.drop 22) (by decide) rfl (credit_slot false 1)) $$ HR HF HO; iintro HF HO
  iapply (free m ρ K true 5 (by decide) (by decide) c _ (dues.drop 22) (dues.drop 23) rfl (dev_lf c) rfl) $$ HR HT HO; iintro HT HO
  iapply (free m ρ K false 5 (by decide) (by decide) c _ (dues.drop 23) (dues.drop 24) rfl (dev_rt c) rfl) $$ HR HF HO; iintro HF HO
  iapply (may m ρ K true 5 (by decide) (by decide) c (dues.drop 24) (by decide) rfl) $$ HR HT HO; iintro HT HO
  iapply (may m ρ K false 5 (by decide) (by decide) c (dues.drop 24) (by decide) rfl) $$ HR HF HO; iintro HF HO
  iapply (go m ρ K true 6 (by decide) (by decide) (by decide) c _ (dues.drop 24) (dues.drop 25) rfl (dev_rt c) rfl rfl rfl rfl) $$ HR HT HO; iintro HT HT' HO
  iapply (done c _ rfl)
  iapply Hk $$ HO HT HT' HF

/-- The twenty-fourth part: the last leftward send leaves; the fifth hop's block from the left is read. -/
theorem part24 (O : Vec F S1024x1024 .f32) {Q : (Σ' (v732 : FVec F S1024x1024 .f32) (v734 : FVec F S2x512x1024 .bf16) (v752 : FVec F S1024x2 .f32), FVec F S1024x2 .f32) → sProp 𝕄} :
    recs m ρ K ⊢ iprop(Owes (F := F) (dues.drop 25) c
      -∗ owns (c : Thread nD τ) oM fullShare O
      -∗ owns (c : Thread nD τ) (slotM true (sl (6 + 1))) fullShare.right (con m ρ true (6 - 1) c)
      -∗ ready m ρ false 6 c
      -∗ (Owes (F := F) (dues.drop 26) c -∗ owns (c : Thread nD τ) oM fullShare O -∗ owns (c : Thread nD τ) (slotM true (sl (6 + 1))) fullShare.right (con m ρ true (6 - 1) c) -∗ flying (F := F) false 6 c -∗ owns (c : Thread nD τ) (slotM false (sl (6 + 1))) fullShare.right (con m ρ false (6 - 1) c) -∗ Q ⟨k0_pay33 O, k0_pay34 (up (con m ρ true (6 - 1) c)), k0_pay36 v3 v4 v27 v42, k0_pay37 v3 v4 v29 v44⟩)
      -∗ WP c (onBufs (k0_part24 (F := F)) c v3 v4 v11 v27 v29 v42 v44 c1) Q) := by
  simp only [k0_part24_eq_skeleton]; unfold k0_part24_skel
  simp only [Prog.lift, Prog.bind_op, Prog.bind_ret, Prog.pure_eq_ret, Prog.bind_assoc]
  iintro #HR HO Ho HT' HF Hk
  iapply (go m ρ K false 6 (by decide) (by decide) (by decide) c _ (dues.drop 25) (dues.drop 26) rfl (dev_lf c) rfl rfl rfl rfl) $$ HR HF HO; iintro HF HF' HO
  iapply (load_all c oM zero2 fullShare O) $$ Ho; iintro Ho
  iapply (load_slot c true (sl (6 + 1)) fullShare.right (con m ρ true (6 - 1) c)) $$ HT'; iintro HT'
  iapply (done c _ rfl)
  iapply Hk $$ HO Ho HT' HF HF'

/-- The twenty-fifth part: the fifth hop's block from the left into the result, the one from the right read. -/
theorem part25 (O : Vec F S1024x1024 .f32) (q : PosShare TreeShare) (X : Vec F S2x512x1024 .bf16) {Q : (Σ' (v774 : FVec F S1024x1024 .f32) (v776 : FVec F S2x512x1024 .bf16), FVec F S1024x2 .bf16) → sProp 𝕄} :
    owns (c : Thread nD τ) oM fullShare O ⊢ iprop(owns (c : Thread nD τ) (slotM false (sl (6 + 1))) q X
      -∗ (owns (c : Thread nD τ) oM fullShare (k0_pay38 v45 A B2 P P') -∗ owns (c : Thread nD τ) (slotM false (sl (6 + 1))) q X -∗ Q ⟨k0_pay39 (k0_pay38 v45 A B2 P P'), k0_pay40 (up X), k0_pay41 v3 v4 v27 v29 v42 v44⟩)
      -∗ WP c (onBufs (k0_part25 (F := F)) v3 v4 v27 v29 v42 v44 v45 A B2 P P') Q) := by
  simp only [k0_part25_eq_skeleton]; unfold k0_part25_skel
  simp only [Prog.lift, Prog.bind_op, Prog.bind_ret, Prog.pure_eq_ret, Prog.bind_assoc]
  iintro Ho HF Hk
  iapply (load_all c oM zero2 fullShare O) $$ Ho; iintro Ho
  iapply (store_all c oM zero2 O) $$ Ho; iintro Ho
  iapply (load_all c oM zero2 fullShare _) $$ Ho; iintro Ho
  iapply (load_slot c false (sl (6 + 1)) q X) $$ HF; iintro HF
  iapply (done c _ rfl)
  iapply Hk $$ Ho HF

/-- The twenty-sixth part: the fifth hop's block from the right into the result; the last rightward hop over. -/
theorem part26 (O : Vec F S1024x1024 .f32) {Q : PUnit → sProp 𝕄} :
    recs m ρ K ⊢ iprop(Owes (F := F) (dues.drop 26) c
      -∗ owns (c : Thread nD τ) oM fullShare O
      -∗ flying (F := F) true 6 c
      -∗ owns (c : Thread nD τ) (slotM true (sl (6 + 1))) fullShare.right (con m ρ true (6 - 1) c)
      -∗ (Owes (F := F) (dues.drop 26) c -∗ owns (c : Thread nD τ) oM fullShare (k0_pay42 v45 A B2 N) -∗ landedAt m ρ true 6 c -∗ Q ⟨⟩)
      -∗ WP c (onBufs (k0_part26 (F := F)) v7 v45 A B2 N) Q) := by
  simp only [k0_part26_eq_skeleton]; unfold k0_part26_skel
  simp only [Prog.lift, Prog.bind_op, Prog.bind_ret, Prog.pure_eq_ret, Prog.bind_assoc]
  iintro #HR HO Ho HT HT' Hk
  iapply (load_all c oM zero2 fullShare O) $$ Ho; iintro Ho
  iapply (store_all c oM zero2 O) $$ Ho; iintro Ho
  iapply (sent m ρ K true 6 (by decide) (by decide) (by decide) c (dues.drop 26) (by decide) rfl (credit_slot true 1)) $$ HR HT HT' HO; iintro HT HO
  iapply (came m ρ K true 6 (by decide) (by decide) c (dues.drop 26) (by decide) rfl (credit_slot true 0)) $$ HR HT HO; iintro HT HO
  iapply (done c _ rfl)
  iapply Hk $$ HO Ho HT

/-- The twenty-seventh part: the last leftward hop over, the send to the partner back; the last block from the left is read. -/
theorem part27 (O : Vec F S1024x1024 .f32) (q : PosShare TreeShare) (X : Vec F S2x512x1024 .bf16) {Q : (Σ' (v844 : FVec F S1024x1024 .f32) (v846 : FVec F S2x512x1024 .bf16), IVec S1x2 32) → sProp 𝕄} :
    recs m ρ K ⊢ iprop(Owes (F := F) (dues.drop 26) c
      -∗ owns (c : Thread nD τ) oM fullShare O
      -∗ flying (F := F) false 6 c
      -∗ owns (c : Thread nD τ) (slotM false (sl (6 + 1))) fullShare.right (con m ρ false (6 - 1) c)
      -∗ cred (tallyAt (cell .zs c) 0 (amt .zs))
      -∗ posn (F := F) .zs c 0
      -∗ owns (c : Thread nD τ) (slotM true (sl 6)) q X
      -∗ (Owes (F := F) (dues.drop 26) c -∗ owns (c : Thread nD τ) oM fullShare O -∗ landedAt m ρ false 6 c -∗ posn (F := F) .zs c 1 -∗ any (F := F) c zsM -∗ owns (c : Thread nD τ) (slotM true (sl 6)) q X -∗ Q ⟨k0_pay43 O, k0_pay44 (up X), k0_pay45 v3 v4⟩)
      -∗ WP c (onBufs (k0_part27 (F := F)) v3 v4 v11) Q) := by
  simp only [k0_part27_eq_skeleton]; unfold k0_part27_skel
  simp only [Prog.lift, Prog.bind_op, Prog.bind_ret, Prog.pure_eq_ret, Prog.bind_assoc]
  iintro #HR HO Ho HF HF' HC HP HT Hk
  iapply (sent m ρ K false 6 (by decide) (by decide) (by decide) c (dues.drop 26) (by decide) rfl (credit_slot false 1)) $$ HR HF HF' HO; iintro HF HO
  iapply (came m ρ K false 6 (by decide) (by decide) c (dues.drop 26) (by decide) rfl (credit_slot false 0)) $$ HR HF HO; iintro HF HO
  iapply (sentz m ρ K c (dues.drop 26) (by decide) rfl (show zsM.view.dmaCredit = NB from rfl)) $$ HR HC HP HO; iintro HP HZ HO
  iapply (load_all c oM zero2 fullShare O) $$ Ho; iintro Ho
  iapply (load_slot c true (sl 6) q X) $$ HT; iintro HT
  iapply (done c _ rfl)
  iapply Hk $$ HO Ho HF HP HZ HT

/-- The twenty-eighth part: the last block from the left into the result, the one from the right read. -/
theorem part28 (O : Vec F S1024x1024 .f32) (q : PosShare TreeShare) (X : Vec F S2x512x1024 .bf16) {Q : (Σ' (v886 : FVec F S1024x1024 .f32) (v888 : FVec F S2x512x1024 .bf16) (v898 : IVec S1x2 32) (v899 : FVec F S1024x1 .f32), IVec S1024x2 32) → sProp 𝕄} :
    owns (c : Thread nD τ) oM fullShare O ⊢ iprop(owns (c : Thread nD τ) (slotM false (sl 6)) q X
      -∗ (owns (c : Thread nD τ) oM fullShare (k0_pay46 v27 v29 v42 v44 v45 A B2 I2) -∗ owns (c : Thread nD τ) (slotM false (sl 6)) q X -∗ Q ⟨k0_pay47 (k0_pay46 v27 v29 v42 v44 v45 A B2 I2), k0_pay48 (up X), k0_pay49 v3 v4, k0_pay50 v42, k0_pay51 v27⟩)
      -∗ WP c (onBufs (k0_part28 (F := F)) v3 v4 v27 v29 v42 v44 v45 A B2 I2) Q) := by
  simp only [k0_part28_eq_skeleton]; unfold k0_part28_skel
  simp only [Prog.lift, Prog.bind_op, Prog.bind_ret, Prog.pure_eq_ret, Prog.bind_assoc]
  iintro Ho HF Hk
  iapply (load_all c oM zero2 fullShare O) $$ Ho; iintro Ho
  iapply (store_all c oM zero2 O) $$ Ho; iintro Ho
  iapply (load_all c oM zero2 fullShare _) $$ Ho; iintro Ho
  iapply (load_slot c false (sl 6) q X) $$ HF; iintro HF
  iapply (done c _ rfl)
  iapply Hk $$ Ho HF

end Cert.KernelIdeal.Exchange
-- ==== Proof.Body.lean ====
module

public import proofs.«01_k».proof.Proof.Part4

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Kd → ℕ) (c : Dev nD)

/-! ## The result's contents, stage by stage -/

/-- A token's two choices, their two weights, and the tokens as multiplied, as device `c` works them out. -/
abbrev ch0 : IVec S1024x1 32 := k0_pay3 (F := F) (col (ist m ρ c) 0 inb_S1024x2_S1024x1_0_0)
@[inherit_doc ch0] abbrev ch1 : IVec S1024x1 32 := k0_pay4 (F := F) (col (ist m ρ c) 1 inb_S1024x2_S1024x1_0_1)
@[inherit_doc ch0] abbrev wt0 : FVec F S1024 .f32 :=
  k0_pay5 (k0_pay2 (xst m ρ c) (rst m ρ c)) (col (ist m ρ c) 0 inb_S1024x2_S1024x1_0_0) (col (ist m ρ c) 1 inb_S1024x2_S1024x1_0_1)
@[inherit_doc ch0] abbrev wt1 : FVec F S1024 .f32 :=
  k0_pay6 (k0_pay2 (xst m ρ c) (rst m ρ c)) (col (ist m ρ c) 0 inb_S1024x2_S1024x1_0_0) (col (ist m ρ c) 1 inb_S1024x2_S1024x1_0_1)
@[inherit_doc ch0] abbrev xb : FVec F S1024x512 .bf16 := k0_pay7 (k0_pay1 (xst m ρ c))

/-- The result after the device's own experts; after the two blocks of each hop; after the partner's own block between. -/
abbrev out1 : FVec F S1024x1024 .f32 :=
  k0_pay16 (ch1 m ρ c) (wt1 m ρ c) (xb m ρ c) (k0_pay12 (est m ρ c)) (k0_pay13 (wd2 c)) (k0_pay14 (wt0 m ρ c)) (k0_pay15 (ch0 m ρ c))
@[inherit_doc out1] abbrev out2 : FVec F S1024x1024 .f32 :=
  k0_pay18 (wd3 c) (wd4 c) (ch0 m ρ c) (ch1 m ρ c) (wt0 m ρ c) (wt1 m ρ c) (xb m ρ c) (k0_pay17 (out1 m ρ c)) (up (con m ρ true (2 - 1) c))
@[inherit_doc out1] abbrev out3 : FVec F S1024x1024 .f32 :=
  k0_pay21 (wd4 c) (ch0 m ρ c) (ch1 m ρ c) (wt0 m ρ c) (wt1 m ρ c) (xb m ρ c) (k0_pay19 (out2 m ρ c)) (k0_pay20 (up (con m ρ false (2 - 1) c))) (Scalar.remsi (Scalar.addi (wd3 c) 1#32) 4#32)
@[inherit_doc out1] abbrev out4 : FVec F S1024x1024 .f32 :=
  k0_pay22 (wd3 c) (wd4 c) (ch0 m ρ c) (ch1 m ρ c) (wt0 m ρ c) (wt1 m ρ c) (xb m ρ c) (out3 m ρ c) (up (con m ρ true (3 - 1) c))
@[inherit_doc out1] abbrev out5 : FVec F S1024x1024 .f32 :=
  k0_pay24 (wd3 c) (wd4 c) (ch0 m ρ c) (ch1 m ρ c) (wt0 m ρ c) (wt1 m ρ c) (xb m ρ c) (k0_pay23 (out4 m ρ c)) (up (con m ρ false (3 - 1) c))
@[inherit_doc out1] abbrev out6 : FVec F S1024x1024 .f32 :=
  k0_pay28 (k0_pay25 (out5 m ρ c)) (k0_pay26 (wd3 c) (wd4 c) (ch0 m ρ c) (ch1 m ρ c) (wt0 m ρ c) (wt1 m ρ c) (xb m ρ c)) (k0_pay27 (up (con m ρ true (4 - 1) c)))
@[inherit_doc out1] abbrev out7 : FVec F S1024x1024 .f32 :=
  k0_pay29 (wd3 c) (wd4 c) (ch0 m ρ c) (ch1 m ρ c) (wt0 m ρ c) (wt1 m ρ c) (xb m ρ c) (out6 m ρ c) (up (con m ρ false (4 - 1) c))
@[inherit_doc out1] abbrev out8 : FVec F S1024x1024 .f32 :=
  k0_pay30 (wd13 c) (ch0 m ρ c) (ch1 m ρ c) (wt0 m ρ c) (wt1 m ρ c) (xb m ρ c) (out7 m ρ c) (zC m ρ (zp c))
@[inherit_doc out1] abbrev out9 : FVec F S1024x1024 .f32 :=
  k0_pay31 (wd3 c) (wd4 c) (ch0 m ρ c) (ch1 m ρ c) (wt0 m ρ c) (wt1 m ρ c) (xb m ρ c) (out8 m ρ c) (up (con m ρ true (5 - 1) c))
@[inherit_doc out1] abbrev out10 : FVec F S1024x1024 .f32 :=
  k0_pay32 (wd3 c) (wd4 c) (ch0 m ρ c) (ch1 m ρ c) (wt0 m ρ c) (wt1 m ρ c) (xb m ρ c) (out9 m ρ c) (up (con m ρ false (5 - 1) c))
@[inherit_doc out1] abbrev out11 : FVec F S1024x1024 .f32 :=
  k0_pay38 (xb m ρ c) (k0_pay33 (out10 m ρ c)) (k0_pay34 (up (con m ρ true (6 - 1) c))) (k0_pay36 (wd3 c) (wd4 c) (ch0 m ρ c) (wt0 m ρ c)) (k0_pay37 (wd3 c) (wd4 c) (ch1 m ρ c) (wt1 m ρ c))
@[inherit_doc out1] abbrev out12 : FVec F S1024x1024 .f32 :=
  k0_pay42 (xb m ρ c) (k0_pay39 (out11 m ρ c)) (k0_pay40 (up (con m ρ false (6 - 1) c))) (k0_pay41 (wd3 c) (wd4 c) (ch0 m ρ c) (ch1 m ρ c) (wt0 m ρ c) (wt1 m ρ c))
@[inherit_doc out1] abbrev out13 : FVec F S1024x1024 .f32 :=
  k0_pay46 (ch0 m ρ c) (ch1 m ρ c) (wt0 m ρ c) (wt1 m ρ c) (xb m ρ c) (k0_pay43 (out12 m ρ c)) (k0_pay44 (up (con m ρ true 6 c))) (k0_pay45 (wd3 c) (wd4 c))
@[inherit_doc out1] abbrev outC : FVec F S1024x1024 .f32 :=
  k0_pay52 (ch1 m ρ c) (wt1 m ρ c) (xb m ρ c) (k0_pay47 (out13 m ρ c)) (k0_pay48 (up (con m ρ false 6 c))) (k0_pay49 (wd3 c) (wd4 c)) (k0_pay50 (wt0 m ρ c)) (k0_pay51 (ch0 m ρ c))

/-! ## The exchange whole -/

/-- One computation after another. -/
theorem chain {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (wp_bind _ _ _ p k Q).symm

/-- What a device holds of the protocol as it starts: tokens, credits, positions. -/
def kit (c : Dev nD) : sProp 𝕄 :=
  iprop((tok (F := F) ⟨.L, .bar, 0, 0, 1⟩ c ∗ tok (F := F) ⟨.R, .bar, 0, 1, 1⟩ c ∗ tok (F := F) ⟨.Z, .bar, 0, 2, 1⟩ c)
    ∗ (cred (tallyAt (cell .bar c) 1 1) ∗ cred (tallyAt (cell .bar c) 1 1) ∗ cred (tallyAt (cell .bar c) 1 1)) ∗ posn (F := F) .bar c 0
    ∗ (tok (F := F) ⟨.S, .zs, 0, 0, 0⟩ c ∗ posn (F := F) .zs c 0)
    ∗ (tok (F := F) ⟨.Z, .zr, 0, 0, 2⟩ c ∗ cred (tallyAt (cell .zr c) 2 (amt .zr)) ∗ posn (F := F) .zr c 0)
    ∗ lane (F := F) true 1 c ∗ lane (F := F) false 1 c
    ∗ (tok (F := F) ⟨.L, .ex, 0, 0, 40⟩ c ∗ tok (F := F) ⟨.R, .ex, 0, 1, 40⟩ c ∗ tok (F := F) ⟨.Z, .ex, 0, 2, 40⟩ c)
    ∗ (cred (tallyAt (cell .ex c) 40 1) ∗ cred (tallyAt (cell .ex c) 40 1) ∗ cred (tallyAt (cell .ex c) 40 1)) ∗ posn (F := F) .ex c 0)

/-- The positions of a lane at its end. -/
def laneEnd (d : Bool) (c : Dev nD) : sProp 𝕄 :=
  iprop(posn (F := F) (.snd d 0) c 3 ∗ posn (F := F) (.snd d 1) c 3 ∗ posn (F := F) (.rcv d 1) c 3 ∗ posn (F := F) (.rcv d 0) c 3 ∗ posn (F := F) (.cr d) c 5)
/-- What it holds at the end: every position at its cell's last round. -/
def kitEnd (c : Dev nD) : sProp 𝕄 :=
  iprop(posn (F := F) .bar c 1 ∗ posn (F := F) .zs c 1 ∗ posn (F := F) .zr c 1 ∗ laneEnd (F := F) true c ∗ laneEnd (F := F) false c ∗ posn (F := F) .ex c 1)

/-- The four scratch buffers, whatever they hold. -/
def scr (c : Dev nD) : sProp 𝕄 := iprop(any (F := F) c (comm true) ∗ any (F := F) c (comm false) ∗ any (F := F) c zsM ∗ any (F := F) c zbM)
/-- The staged inputs. -/
def ins (c : Dev nD) : sProp 𝕄 :=
  iprop(owns (c : Thread nD τ) xM fullShare (xst m ρ c) ∗ owns (c : Thread nD τ) rM fullShare (rst m ρ c) ∗ owns (c : Thread nD τ) iM fullShare (ist m ρ c)
    ∗ owns (c : Thread nD τ) eM fullShare (est m ρ c))

/-- A payment at the end hands nothing over. -/
theorem nothing (n : Dev nD) {r : ℕ} {t : Fin 3} {P : sProp 𝕄} : P ⊢ pay m ρ .ex n r t := by
  show P ⊢ iprop(emp)
  iintro H
  iempintro

/-- A ring's scratch is its two slots. -/
theorem slots_any (d : Bool) (c : Dev nD) : any (F := F) c (comm d) ⊢ iprop(any (F := F) c (slotM d 0) ∗ any (F := F) c (slotM d 1)) := by
  unfold any
  iintro ⟨%X, H⟩
  iapply (slots_of c d X) $$ H

/-- What the slots hold at the start is the halves of the device's own block. -/
theorem start (d : Bool) (c : Dev nD) : (owns (c : Thread nD τ) (slotM d 0) fullShare (own m ρ d c) : sProp 𝕄)
    = owns (c : Thread nD τ) (slotM d (sl (1 + 1))) fullShare (con m ρ d (1 - 1) c) := rfl

/-- A lane that has taken its last hop is at its end. -/
theorem lane_over (d : Bool) (c : Dev nD) : landedAt m ρ d 6 c ⊢ iprop(laneEnd (F := F) d c ∗ any (F := F) c (comm d)) := by
  unfold landedAt arrived core laneEnd any
  iintro ⟨⟨⟨⟨H1, H2, H3, H4, H5, -⟩, -⟩, -⟩, Ha, Hb⟩
  isplitl [H1 H2 H3 H4 H5]
  · isplitl [H1]; · iexact H1
    isplitl [H2]; · iexact H2
    isplitl [H3]; · iexact H3
    isplitl [H4]; · iexact H4
    iexact H5
  iapply (of_slots c d)
  isplitl [Hb]
  · iexists _; iexact Hb
  iexact Ha

/-- The twenty-ninth part: the parts one after another, and the last block from the right into the result. -/
theorem part29 {Q : (Σ' (d0 : Dev nD) (v7 : BitVec 32) (v11 : BitVec 32) (v13 : BitVec 32), BitVec 32) → sProp 𝕄} :
    recs m ρ K ⊢ iprop(Owes (F := F) dues c -∗ kit (F := F) c -∗ scr (F := F) c -∗ ins m ρ c -∗ any (F := F) c oM
      -∗ (Owes (F := F) (dues.drop 26) c
          -∗ (tok (F := F) ⟨.L, .ex, 0, 0, 40⟩ c ∗ tok (F := F) ⟨.R, .ex, 0, 1, 40⟩ c ∗ tok (F := F) ⟨.Z, .ex, 0, 2, 40⟩ c)
          -∗ (cred (tallyAt (cell .ex c) 40 1) ∗ cred (tallyAt (cell .ex c) 40 1) ∗ cred (tallyAt (cell .ex c) 40 1)) -∗ posn (F := F) .ex c 0
          -∗ posn (F := F) .bar c 1 -∗ posn (F := F) .zs c 1 -∗ posn (F := F) .zr c 1 -∗ laneEnd (F := F) true c -∗ laneEnd (F := F) false c
          -∗ scr (F := F) c -∗ ins m ρ c -∗ owns (c : Thread nD τ) oM fullShare (outC m ρ c)
          -∗ Q ⟨c, wd7 c, wd11 c, wd13 c, 1#32⟩)
      -∗ WP c (onBufs (k0_part29 (F := F))) Q) := by
  simp only [k0_part29_eq_skeleton]; unfold k0_part29_skel
  simp only [Prog.lift, Prog.bind_op, Prog.bind_ret, Prog.pure_eq_ret]
  unfold kit scr ins
  iintro #HR HO ⟨Hbt, Hbc, Hbp, ⟨Hzst, Hzsp⟩, ⟨Hzrt, Hzrc, Hzrp⟩, HT, HF, Hxt, Hxc, Hxp⟩ ⟨HcT, HcF, Hzs, Hzb⟩ ⟨HX, HRt, HI, HE⟩ Hout0 Hk
  ihave Hout := (Entails.of_eq (show any (F := F) c oM = iprop(∃ X, owns (c : Thread nD τ) oM fullShare X) from rfl)) $$ Hout0
  icases Hout with ⟨%O, Ho⟩
  ihave HcT2 := (slots_any true c) $$ HcT
  ihave HcF2 := (slots_any false c) $$ HcF
  icases HcT2 with ⟨HT0, HT1⟩
  icases HcF2 with ⟨HF0, HF1⟩
  iapply (chain c)
  iapply (part1 m ρ K c (xst m ρ c) (rst m ρ c) (ist m ρ c)) $$ HR HO Hbt HT1 HF1 Hzb Hbc Hbp HX HRt HI
  iintro HO Hbp HT1 HF1 Hzb HX HRt HI
  iapply (chain c)
  iapply (part2 c (ist m ρ c) (est m ρ c)) $$ HI HE HT0 HF0 Hzs
  iintro HI HE HT0 HF0 Hzs
  iapply (chain c)
  ihave Hzs' := (Entails.of_eq (show (owns (c : Thread nD τ) zsM fullShare (k0_pay11 (est m ρ c)) : sProp 𝕄) = owns (c : Thread nD τ) zsM fullShare (zC m ρ c) from rfl)) $$ Hzs
  iapply (part3 m ρ K c (est m ρ c)) $$ HR HO Hzs' Hzb Hzst Hzrt [HT HT0 HT1] [HF HF0 HF1] HE
  · unfold ready
    isplitl [HT]; · iexact HT
    isplitl [HT0]; · iapply (Entails.of_eq (show (owns (c : Thread nD τ) (slotM true 0) fullShare (dn (k0_pay9 (est m ρ c))) : sProp 𝕄) = _ from start m ρ true c)) $$ HT0
    iexact HT1
  · unfold ready
    isplitl [HF]; · iexact HF
    isplitl [HF0]; · iapply (Entails.of_eq (show (owns (c : Thread nD τ) (slotM false 0) fullShare (dn (k0_pay10 (est m ρ c))) : sProp 𝕄) = _ from start m ρ false c)) $$ HF0
    iexact HF1
  iintro HO Hzsc HT HT' HF HF' HE
  iapply (chain c)
  iapply (part4 m ρ K c O) $$ HR HO Ho HT HT'; iintro HO Ho HT
  iapply (chain c)
  iapply (part5 m ρ K c) $$ HR HO HT HF HF'; iintro HO HT HF
  iapply (chain c)
  iapply (part6 m ρ K c (out1 m ρ c)) $$ HR HO HT HF Ho; iintro HO Ho HT HT' HF HF'
  iapply (chain c)
  iapply (part7 c (out1 m ρ c) fullShare.right fullShare.right (con m ρ true (2 - 1) c) (con m ρ false (2 - 1) c)) $$ Ho HT' HF'; iintro Ho HT' HF'
  iapply (chain c)
  iapply (part8 m ρ K c (out2 m ρ c)) $$ HR HO Ho HT HT'; iintro HO Ho HT
  iapply (chain c)
  iapply (part9 m ρ K c) $$ HR HO HT HF HF'; iintro HO HT HF
  iapply (chain c)
  iapply (part10 m ρ K c) $$ HR HO HT HF; iintro HO HT HT' HF
  iapply (chain c)
  iapply (part11 m ρ K c (out3 m ρ c)) $$ HR HO Ho HT' HF; iintro HO Ho HT' HF HF'
  iapply (chain c)
  iapply (part12 c (out4 m ρ c) fullShare.right (con m ρ false (3 - 1) c)) $$ Ho HF'; iintro Ho HF'
  iapply (chain c)
  iapply (part13 m ρ K c) $$ HR HO HT HT' HF HF'; iintro HO HT HF
  iapply (chain c)
  iapply (part14 m ρ K c) $$ HR HO HT HF Hzrc Hzrp; iintro HO HT HT' HF Hzrp HZ HFz
  iapply (chain c)
  iapply (part15 m ρ K c (out5 m ρ c)) $$ HR HO Ho HT' HF HFz; iintro HO Ho HT' HF HF'
  iapply (chain c)
  iapply (part16 c (out5 m ρ c) fullShare (con m ρ false (4 - 1) c)) $$ Ho HF'; iintro Ho HF'
  iapply (chain c)
  iapply (part17 c (out6 m ρ c) fullShare.right (zC m ρ (zp c))) $$ Ho HZ; iintro Ho HZ
  iapply (chain c)
  iapply (part18 m ρ K c) $$ HR HO HT HT' HF HF'; iintro HO HT HTz HF HFz
  ihave Hzb := (zwhole c (zC m ρ (zp c))) $$ HZ HTz HFz
  iapply (chain c)
  iapply (part19 m ρ K c) $$ HR HO HT HF; iintro HO HT HT' HF HF'
  iapply (chain c)
  iapply (part20 c (out8 m ρ c) fullShare.right (con m ρ true (5 - 1) c)) $$ Ho HT'; iintro Ho HT'
  iapply (chain c)
  iapply (part21 c (out9 m ρ c) fullShare.right (con m ρ false (5 - 1) c)) $$ Ho HF'; iintro Ho HF'
  iapply (chain c)
  iapply (part22 m ρ K c) $$ HR HO HT HT' HF HF'; iintro HO HT HF
  iapply (chain c)
  iapply (part23 m ρ K c) $$ HR HO HT HF; iintro HO HT HT' HF
  iapply (chain c)
  iapply (part24 m ρ K c (out10 m ρ c)) $$ HR HO Ho HT' HF; iintro HO Ho HT' HF HF'
  iapply (chain c)
  iapply (part25 c (out10 m ρ c) fullShare.right (con m ρ false (6 - 1) c)) $$ Ho HF'; iintro Ho HF'
  iapply (chain c)
  iapply (part26 m ρ K c (out11 m ρ c)) $$ HR HO Ho HT HT'; iintro HO Ho HT
  unfold landedAt
  icases HT with ⟨HTa, HTb, HTc⟩
  iapply (chain c)
  iapply (part27 m ρ K c (out12 m ρ c) fullShare (con m ρ true 6 c)) $$ HR HO Ho HF HF' Hzsc Hzsp HTc; iintro HO Ho HF Hzsp Hzs HTc
  unfold landedAt
  icases HF with ⟨HFa, HFb, HFc⟩
  iapply (chain c)
  iapply (part28 c (out12 m ρ c) fullShare (con m ρ false 6 c)) $$ Ho HFc; iintro Ho HFc
  iapply (load_all c oM zero2 fullShare (out13 m ρ c)) $$ Ho; iintro Ho
  iapply (store_all c oM zero2 (out13 m ρ c)) $$ Ho; iintro Ho
  ihave HT := (lane_over m ρ true c) $$ [HTa HTb HTc]
  · unfold landedAt
    isplitl [HTa]; · iexact HTa
    isplitl [HTb]; · iexact HTb
    iexact HTc
  ihave HF := (lane_over m ρ false c) $$ [HFa HFb HFc]
  · unfold landedAt
    isplitl [HFa]; · iexact HFa
    isplitl [HFb]; · iexact HFb
    iexact HFc
  icases HT with ⟨HT, HcT⟩
  icases HF with ⟨HF, HcF⟩
  iapply (done c _ rfl)
  iapply Hk $$ HO Hxt Hxc Hxp Hbp Hzsp Hzrp HT HF [HcT HcF Hzs Hzb] [HX HRt HI HE] Ho
  · isplitl [HcT]; · iexact HcT
    isplitl [HcF]; · iexact HcF
    isplitl [Hzs]; · iexact Hzs
    iexact Hzb
  · isplitl [HX]; · iexact HX
    isplitl [HRt]; · iexact HRt
    isplitl [HI]; · iexact HI
    iexact HE

/-- Every device's body: the exchange, then the meeting at the end. -/
theorem body {Q : PUnit → sProp 𝕄} :
    recs m ρ K ⊢ iprop(Owes (F := F) dues c -∗ kit (F := F) c -∗ scr (F := F) c -∗ ins m ρ c -∗ any (F := F) c oM
      -∗ (Owes (F := F) [] c -∗ kitEnd (F := F) c -∗ scr (F := F) c -∗ ins m ρ c -∗ owns (c : Thread nD τ) oM fullShare (outC m ρ c) -∗ Q ⟨⟩)
      -∗ WP c (onBufs (cc0_body (F := F))) Q) := by
  simp only [cc0_body_eq_skeleton]; unfold cc0_body_skel
  simp only [semSignalWord, semWaitWord, Prog.lift, Prog.bind_op, Prog.bind_ret, Prog.pure_eq_ret]
  iintro #HR HO Hkit Hscr Hins Hout Hk
  iapply (chain c)
  iapply (part29 m ρ K c) $$ HR HO Hkit Hscr Hins Hout
  iintro HO ⟨Ht1, Ht2, Ht3⟩ ⟨Hc1, Hc2, Hc3⟩ Hxp Hbp Hzsp Hzrp HT HF Hscr Hins Ho
  iapply (wp_pay m ρ K c _ ⟨.L, .ex, 0, 0, 40⟩ (dues.drop 27) (dev_lf c) (sem := exS) (k' := 1) rfl rfl (by decide)) $$ [HO Ht1]
  · isplitr; · iexact HR
    isplitl [HO]; · iexact HO
    isplitl [Ht1]; · iexact Ht1
    isplitr; · iapply (nothing m ρ _) $$ HR
    iapply (recs_reached m ρ K .ex _) $$ HR
  iintro HO
  iapply (wp_pay m ρ K c _ ⟨.R, .ex, 0, 1, 40⟩ (dues.drop 28) (dev_rt c) (sem := exS) (k' := 1) rfl rfl (by decide)) $$ [HO Ht2]
  · isplitr; · iexact HR
    isplitl [HO]; · iexact HO
    isplitl [Ht2]; · iexact Ht2
    isplitr; · iapply (nothing m ρ _) $$ HR
    iapply (recs_reached m ρ K .ex _) $$ HR
  iintro HO
  iapply (wp_pay m ρ K c _ ⟨.Z, .ex, 0, 2, 40⟩ [] (dev_zp c) (sem := exS) (k' := 1) rfl rfl (by decide)) $$ [HO Ht3]
  · isplitr; · iexact HR
    isplitl [HO]; · iexact HO
    isplitl [Ht3]; · iexact Ht3
    isplitr; · iapply (nothing m ρ _) $$ HR
    iapply (recs_reached m ρ K .ex _) $$ HR
  iintro HO
  iapply (wp_take3 m ρ K c .ex 40 [] (wpE_semWait_eq 𝒱₀ (c : Thread nD τ) none Set.univ) (k' := 3) rfl rfl (by decide) (by decide)) $$ [HO Hc1 Hc2 Hc3 Hxp]
  · isplitr; · iexact HR
    isplitl [Hc1 Hc2 Hc3]
    · isplitl [Hc1]; · iexact Hc1
      isplitl [Hc2]; · iexact Hc2
      iexact Hc3
    isplitl [HO]; · iexact HO
    iexact Hxp
  iintro ⟨HO, Hxp, -, -, -⟩
  iapply (done c _ rfl)
  iapply Hk $$ HO [Hbp Hzsp Hzrp HT HF Hxp] Hscr Hins Ho
  unfold kitEnd
  isplitl [Hbp]; · iexact Hbp
  isplitl [Hzsp]; · iexact Hzsp
  isplitl [Hzrp]; · iexact Hzrp
  isplitl [HT]; · iexact HT
  isplitl [HF]; · iexact HF
  iexact Hxp

end Cert.KernelIdeal.Exchange
-- ==== Proof.Deal.lean ====
module

public import proofs.«01_k».proof.Proof.Body
public import Idealize.ShloMosaic.Lib.Pipeline.BigSepL
public import Idealize.ShloMosaic.Lib.Pipeline.TalkSched
public import Idealize.ShloMosaic.Lib.Rounds.Family

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## Dealing the tokens and the credits -/

/-- All payments of a device. -/
abbrev posts : List Post := dues ++ selfs

/-- What the ledger owes a device of a payment: a credit on the device's own cell. -/
def crd (p : Post) (c : Dev nD) : sProp 𝕄 := cred (tallyAt (cell p.k c) p.ix (amt p.k))

omit [FloatOps F] in
/-- A list of payments, each device's part dealt to the device that makes it, is the list with each device's part dealt to the owner. -/
theorem deal (f : Kd → ℕ → Fin 3 → Dev nD → sProp 𝕄) (l : List Post) :
    (bigSep Finset.univ fun c : Dev nD => bigSepL l fun p => f p.k p.r p.t c)
      = bigSep Finset.univ fun c : Dev nD => bigSepL l fun p => f p.k p.r p.t (peer p.who c) := by
  induction l with
  | nil => rfl
  | cons p l ih =>
    simp only [bigSepL_cons']
    rw [bigSep_sep', bigSep_sep', ih, bigSep_univ_equiv (peer p.who) (fun c => f p.k p.r p.t c)]

/-- The payments as their tokens name them. -/
abbrev codes : List (Kd × ℕ × Fin 3) := posts.map fun p => (p.k, p.r, p.t)
/-- The semaphores of a device are all different. -/
theorem codes_nodup : codes.Nodup := by decide

/-- No two devices' semaphores are one cell. -/
theorem cell_injective : Function.Injective (fun ck : Dev nD × Kd => cell ck.2 ck.1) := by
  rintro ⟨c, k⟩ ⟨c', k'⟩ h
  have h1 : c = c' := congrArg (fun g : GSem nD τ sig => g.1.1) h
  have h2 : semOf k = semOf k'  := congrArg Prod.snd h
  have h3 : some k = some k' := by rw [← kdOf_semOf, ← kdOf_semOf, h2]
  rw [h1, Option.some.inj h3]
/-- The cells of all devices. -/
def cells : Finset (GSem nD τ sig) := Finset.univ.map ⟨_, cell_injective⟩

/-- No two duties share a token. -/
theorem token_injective : Function.Injective
    (fun x : Dev nD × Fin codes.length => ((cell (codes.get x.2).1 x.1, (codes.get x.2).2) : GSem nD τ sig × ℕ × Fin 3)) := by
  rintro ⟨c, j⟩ ⟨c', j'⟩ h
  have h1 := cell_injective (a₁ := (c, (codes.get j).1)) (a₂ := (c', (codes.get j').1))
    (congrArg (fun x : GSem nD τ sig × ℕ × Fin 3 => x.1) h)
  have h2 : (codes.get j).2 = (codes.get j').2  := congrArg (fun x : GSem nD τ sig × ℕ × Fin 3 => x.2) h
  have h3 : codes.get j = codes.get j' := Prod.ext (Prod.mk.inj h1).2 h2
  exact Prod.ext (Prod.mk.inj h1).1 (codes_nodup.injective_get h3)
/-- The tokens of all devices' cells. -/
def tokens : Finset (GSem nD τ sig × ℕ × Fin 3) := Finset.univ.map ⟨_, token_injective⟩

omit [FloatOps F] in
/-- A list with no repeats, place by place. -/
theorem bigSep_places {I : Type} [DecidableEq I] (l : List I) (hl : l.Nodup) (Φ : I → sProp 𝕄) : bigSep Finset.univ (fun j : Fin l.length => Φ (l.get j)) = bigSepL l Φ := by
  rw [← bigSep_eq_bigSepL l hl, show l.toFinset = Finset.univ.map ⟨l.get, hl.injective_get⟩ from by
    ext x; rw [List.mem_toFinset, List.mem_iff_get]; simp, bigSep_map]
  rfl

omit [FloatOps F] in
/-- The minted tokens are every device's payments'. -/
theorem tokens_eq : bigSep tokens (fun x => (dutyTok ER x.1 x.2.1 x.2.2 : sProp 𝕄))
    = bigSep Finset.univ fun c : Dev nD => bigSepL posts fun p => tok (F := F) p c := by
  unfold tokens tok
  rw [bigSep_map, bigSep_univ_prod, ← deal (fun k r t c => dutyTok ER (cell k c) r t) posts]
  refine bigSep_congr fun c _ => ?_
  exact (bigSep_places codes codes_nodup (fun x => dutyTok ER (cell x.1 c) x.2.1 x.2.2)).trans (bigSepL_map _ _ _)

omit [FloatOps F] in
/-- The minted states and positions are every device's cells'. -/
theorem cells_eq (Φ : GSem nD τ sig → sProp 𝕄) : bigSep cells Φ = bigSep Finset.univ fun c : Dev nD => bigSep Finset.univ fun k : Kd => Φ (cell k c) := by
  unfold cells; rw [bigSep_map, bigSep_univ_prod]; rfl

omit [FloatOps F] in
/-- What the devices owe one payment each is on every device a credit of it. -/
theorem launch_post (p : Post) (c : Dev nD) :
    (Pipeline.launchCred (fun d => tallyAt (cell p.k (peer p.who d)) p.ix (amt p.k)) c : sProp 𝕄) = crd p c :=
  Pipeline.launchCred_of_sum _ (fun d => tallyAt (cell p.k d) p.ix (amt p.k))
    (Equiv.sum_comp (peer p.who) fun d => (tallyAt (cell p.k d) p.ix (amt p.k) : CellTallies nD τ sig ℕ))
    (fun d g hg => by
      by_contra hne
      exact hg (tallyAt_ne_cell (fun h => hne (by rw [h])) _ _)) c

omit [FloatOps F] in
/-- What the devices owe at launch is on every device a credit of each payment. -/
theorem launch_creds (l : List Post) (c : Dev nD) : (Pipeline.launchCred (fun d => owed l d) c : sProp 𝕄) = bigSepL l fun p => crd (F := F) p c := by
  induction l with
  | nil => exact Pipeline.launchCred_zero c
  | cons p l ih =>
    simp only [owed_cons]
    rw [Pipeline.launchCred_add, ih, launch_post, bigSepL_cons']
    exact BI.Entails.antisymm sep_comm sep_comm

/-! ## The payments sorted by their use -/

/-- A lane's arrivals, its credits, its sends. -/
abbrev arrivals (d : Bool) : List Post := (List.range' 1 6).map (Post.arrive d)
@[inherit_doc arrivals] abbrev frees (d : Bool) : List Post := (List.range' 1 5).map (Post.free d)
@[inherit_doc arrivals] abbrev sends (d : Bool) : List Post := (List.range' 1 6).map (Post.sent d)
/-- The payments at the barrier, at the exit, and of the partner transfer. -/
abbrev bars : List Post := [⟨.L, .bar, 0, 0, 1⟩, ⟨.R, .bar, 0, 1, 1⟩, ⟨.Z, .bar, 0, 2, 1⟩]
@[inherit_doc bars] abbrev exits : List Post := [⟨.L, .ex, 0, 0, 40⟩, ⟨.R, .ex, 0, 1, 40⟩, ⟨.Z, .ex, 0, 2, 40⟩]
@[inherit_doc bars] abbrev across : List Post := [⟨.Z, .zr, 0, 0, 2⟩]
@[inherit_doc bars] abbrev acrossS : List Post := [⟨.S, .zs, 0, 0, 0⟩]

omit [FloatOps F] in
/-- The payments to others, sorted. -/
theorem dues_sorted (Φ : Post → sProp 𝕄) : bigSepL dues Φ = iprop(bigSepL bars Φ ∗ bigSepL across Φ ∗ bigSepL exits Φ
    ∗ bigSepL (arrivals true) Φ ∗ bigSepL (arrivals false) Φ ∗ bigSepL (frees true) Φ ∗ bigSepL (frees false) Φ) := by
  rw [TalkSites.bigSepL_perm (l' := bars ++ (across ++ (exits ++ (arrivals true ++ (arrivals false ++ (frees true ++ frees false)))))) (by decide) (by decide)]
  simp only [bigSepL_append]
omit [FloatOps F] in
/-- The payments to oneself, sorted. -/
theorem selfs_sorted (Φ : Post → sProp 𝕄) : bigSepL selfs Φ = iprop(bigSepL acrossS Φ ∗ bigSepL (sends true) Φ ∗ bigSepL (sends false) Φ) := by
  rw [show selfs = acrossS ++ (sends true ++ sends false) from by decide, bigSepL_append, bigSepL_append]

omit [FloatOps F] in
/-- A row of a lane's payments, hop by hop. -/
theorem row_eq (n : ℕ) (f : ℕ → Post) (Φ : Post → sProp 𝕄) : bigSepL ((List.range' 1 n).map f) Φ = bigSep (Finset.Ico 1 (n + 1)) fun j => Φ (f j) := by
  rw [bigSepL_map, bigSep_eq_bigSepL_of_eq (List.range' 1 n) (by ext x; simp [List.mem_range'_1]; omega) (List.nodup_range')]

omit [FloatOps F] in
/-- A lane's tokens and credits are its rows of payments. -/
theorem ends_intro (d : Bool) (c : Dev nD) :
    iprop(bigSepL (sends d) (fun p => tok (F := F) p c) ∗ bigSepL (arrivals d) (fun p => tok (F := F) p c) ∗ bigSepL (arrivals d) (fun p => crd (F := F) p c)) = ends d 1 c := by
  rw [row_eq, row_eq, row_eq]
  unfold ends
  rw [bigSep_sep', bigSep_sep']
  rfl
omit [FloatOps F] in
@[inherit_doc ends_intro] theorem backs_intro (d : Bool) (c : Dev nD) :
    iprop(bigSepL (frees d) (fun p => tok (F := F) p c) ∗ bigSepL (frees d) (fun p => crd (F := F) p c)) = backs d 1 c := by
  rw [row_eq, row_eq]
  unfold backs
  rw [bigSep_sep']
  rfl

/-- A lane at its start. -/
theorem lane_intro (d : Bool) (c : Dev nD) :
    iprop((posn (F := F) (.snd d 0) c 0 ∗ posn (F := F) (.snd d 1) c 0 ∗ posn (F := F) (.rcv d 0) c 0 ∗ posn (F := F) (.rcv d 1) c 0 ∗ posn (F := F) (.cr d) c 0)
      ∗ ends d 1 c ∗ backs d 1 c) ⊢ lane (F := F) d 1 c := by
  rw [show lane (F := F) d 1 c = iprop((posn (F := F) (.snd d 0) c 0 ∗ posn (F := F) (.snd d 1) c 0 ∗ posn (F := F) (.rcv d 1) c 0 ∗ posn (F := F) (.rcv d 0) c 0
    ∗ posn (F := F) (.cr d) c 0 ∗ ends d 1 c) ∗ backs d 1 c) from rfl]
  iintro ⟨⟨H1, H2, H3, H4, H5⟩, He, Hb⟩
  isplitr [Hb]
  · isplitl [H1]; · iexact H1
    isplitl [H2]; · iexact H2
    isplitl [H4]; · iexact H4
    isplitl [H3]; · iexact H3
    isplitl [H5]; · iexact H5
    iexact He
  iexact Hb

omit [FloatOps F] in
/-- A product over the kinds, one by one. -/
theorem bigSep_kinds (Φ : Kd → sProp 𝕄) : bigSep Finset.univ Φ = iprop(Φ .bar ∗ Φ (.snd true 0) ∗ Φ (.snd true 1) ∗ Φ (.rcv true 0) ∗ Φ (.rcv true 1)
    ∗ Φ (.snd false 0) ∗ Φ (.snd false 1) ∗ Φ (.rcv false 0) ∗ Φ (.rcv false 1) ∗ Φ .zs ∗ Φ .zr ∗ Φ (.cr true) ∗ Φ (.cr false) ∗ Φ .ex) := bigSep_univ_eq_bigSepL Kd.all (by decide) (by decide) Φ

/-- What a device starts with, list by list. -/
theorem kit_eq (c : Dev nD) : kit (F := F) c = iprop(bigSepL bars (fun p => tok (F := F) p c) ∗ bigSepL bars (fun p => crd (F := F) p c) ∗ posn (F := F) .bar c 0
    ∗ (bigSepL acrossS (fun p => tok (F := F) p c) ∗ posn (F := F) .zs c 0)
    ∗ (bigSepL across (fun p => tok (F := F) p c) ∗ bigSepL across (fun p => crd (F := F) p c) ∗ posn (F := F) .zr c 0)
    ∗ lane (F := F) true 1 c ∗ lane (F := F) false 1 c
    ∗ bigSepL exits (fun p => tok (F := F) p c) ∗ bigSepL exits (fun p => crd (F := F) p c) ∗ posn (F := F) .ex c 0) := rfl

/-- What a device holds of the protocol as it starts, from the tokens, the credits and the positions dealt to it. -/
theorem kit_intro (c : Dev nD) :
    iprop((bigSepL posts fun p => tok (F := F) p c) ∗ (bigSepL dues fun p => crd (F := F) p c) ∗ (bigSep Finset.univ fun k : Kd => posn (F := F) k c 0)) ⊢ kit (F := F) c := by
  rw [bigSepL_append, dues_sorted, dues_sorted, selfs_sorted, bigSep_kinds]
  iintro ⟨⟨⟨Hbt, Hzrt, Hxt, Ha1, Ha0, Hf1, Hf0⟩, Hzst, Hs1, Hs0⟩, ⟨Hbc, Hzrc, Hxc, Hca1, Hca0, Hcf1, Hcf0⟩,
    Hbp, Hp1, Hp2, Hp3, Hp4, Hq1, Hq2, Hq3, Hq4, Hzsp, Hzrp, Hp5, Hq5, Hxp⟩
  ihave HT := (lane_intro true c) $$ [Hp1 Hp2 Hp3 Hp4 Hp5 Hs1 Ha1 Hca1 Hf1 Hcf1]
  · isplitl [Hp1 Hp2 Hp3 Hp4 Hp5]
    · isplitl [Hp1]; · iexact Hp1
      isplitl [Hp2]; · iexact Hp2
      isplitl [Hp3]; · iexact Hp3
      isplitl [Hp4]; · iexact Hp4
      iexact Hp5
    rw [← ends_intro, ← backs_intro]
    isplitl [Hs1 Ha1 Hca1]
    · isplitl [Hs1]; · iexact Hs1
      isplitl [Ha1]; · iexact Ha1
      iexact Hca1
    isplitl [Hf1]; · iexact Hf1
    iexact Hcf1
  ihave HF := (lane_intro false c) $$ [Hq1 Hq2 Hq3 Hq4 Hq5 Hs0 Ha0 Hca0 Hf0 Hcf0]
  · isplitl [Hq1 Hq2 Hq3 Hq4 Hq5]
    · isplitl [Hq1]; · iexact Hq1
      isplitl [Hq2]; · iexact Hq2
      isplitl [Hq3]; · iexact Hq3
      isplitl [Hq4]; · iexact Hq4
      iexact Hq5
    rw [← ends_intro, ← backs_intro]
    isplitl [Hs0 Ha0 Hca0]
    · isplitl [Hs0]; · iexact Hs0
      isplitl [Ha0]; · iexact Ha0
      iexact Hca0
    isplitl [Hf0]; · iexact Hf0
    iexact Hcf0
  iapply (Entails.of_eq (kit_eq c).symm)
  isplitl [Hbt]; · iexact Hbt
  isplitl [Hbc]; · iexact Hbc
  isplitl [Hbp]; · iexact Hbp
  isplitl [Hzst Hzsp]
  · isplitl [Hzst]; · iexact Hzst
    iexact Hzsp
  isplitl [Hzrt Hzrc Hzrp]
  · isplitl [Hzrt]; · iexact Hzrt
    isplitl [Hzrc]; · iexact Hzrc
    iexact Hzrp
  isplitl [HT]; · iexact HT
  isplitl [HF]; · iexact HF
  isplitl [Hxt]; · iexact Hxt
  isplitl [Hxc]; · iexact Hxc
  iexact Hxp

/-! ## The cells closed -/

/-- What a device holds at the end is every cell's position at its last round. -/
theorem kitEnd_elim (c : Dev nD) : kitEnd (F := F) c ⊢ bigSep Finset.univ fun k : Kd => (atPos ER (cell k c) (rounds k) ∅ 0 : sProp 𝕄) := by
  rw [bigSep_kinds]
  unfold kitEnd laneEnd posn
  iintro ⟨⟨Hb, -⟩, ⟨Hzs, -⟩, ⟨Hzr, -⟩, ⟨⟨H1, -⟩, ⟨H2, -⟩, ⟨H4, -⟩, ⟨H3, -⟩, H5, -⟩, ⟨⟨G1, -⟩, ⟨G2, -⟩, ⟨G4, -⟩, ⟨G3, -⟩, G5, -⟩, Hx, -⟩
  isplitl [Hb]; · iexact Hb
  isplitl [H1]; · iexact H1
  isplitl [H2]; · iexact H2
  isplitl [H3]; · iexact H3
  isplitl [H4]; · iexact H4
  isplitl [G1]; · iexact G1
  isplitl [G2]; · iexact G2
  isplitl [G3]; · iexact G3
  isplitl [G4]; · iexact G4
  isplitl [Hzs]; · iexact Hzs
  isplitl [Hzr]; · iexact Hzr
  isplitl [H5]; · iexact H5
  isplitl [G5]; · iexact G5
  iexact Hx

/-- Every semaphore of the protocol on a device is then back at zero. -/
theorem close_all (K : Dev nD × Kd → ℕ) (c : Dev nD) :
    recs m ρ K ⊢ iprop(kitEnd (F := F) c -∗ |={Set.univ}=> bigSep Finset.univ fun k : Kd => (semVal (cell k c) 0 : sProp 𝕄)) := by
  iintro #HR Hk
  ihave Hat := (kitEnd_elim c) $$ Hk
  iapply (Rounds.cells_close ER (Rd m ρ) Finset.univ (fun k => cell k c) (fun k => K (c, k)) (fun k _ => Set.mem_univ _) (fun k _ h => h) rounds
    (fun k _ r hr => by rw [duties_cell]; exact dut_later k r hr))
  iapply ((sep_mono_left (BI.bigSep_of_persistent Finset.univ (recs m ρ K))).trans (by
    rw [← bigSep_sep']
    exact bigSep_mono fun k _ => sep_mono_left (recs_inv m ρ K k c)))
  isplitr; · iexact HR
  iexact Hat

end Cert.KernelIdeal.Exchange

end
-- ==== Proof.Launch.lean ====
module

public import proofs.«01_k».proof.Proof.Deal
public import proofs.«01_k».proof.Proof.Gen.KernelIdeal.Points
public import Idealize.ShloMosaic.Adequacy
public import Idealize.ShloMosaic.Lib.Pipeline.CollectiveSegs
public import Idealize.ShloMosaic.Lib.Quiescent

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's data -/

/-- What a device holds at its point: the records under some names, its kit. -/
def begins (c : Dev nD) : sProp 𝕄 := iprop(∃ K, recs m ρ K ∗ kit (F := F) c)
/-- Before the point, with the scratch; after it, the scratch and every semaphore at zero. -/
def Φa (c : Dev nD) : sProp 𝕄 := iprop(begins m ρ c ∗ scr (F := F) c)
@[inherit_doc Φa] def Φz (c : Dev nD) : sProp 𝕄 := iprop(scr (F := F) c ∗ bigSep Finset.univ fun k : Kd => semVal (cell k c) 0)

/-- The staged inputs stay, the output's staging buffer takes the result. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xst m ρ c
    | ⟨1, _⟩ => rst m ρ c
    | ⟨2, _⟩ => ist m ρ c
    | ⟨3, _⟩ => est m ρ c
    | ⟨4, _⟩ => outC m ρ c
  Φ t := match t with
    | ⟨0, _⟩ => Φa m ρ c
    | ⟨_ + 1, _⟩ => Φz (F := F) c
  q _ := fullShare
  owed t := match t with
    | ⟨0, _⟩ => owed dues c
    | ⟨_ + 1, _⟩ => owed [] c

/-- What the one point starts from and ends with. -/
def pre (c : Dev nD) : sProp 𝕄 :=
  iprop(Φa m ρ c ∗ (dats m ρ 0 c).owesAt 0 t0_0.castSucc
    ∗ (∃ d, owns (c : Thread nD τ) xM fullShare ((dats m ρ 0 c).before (0 : Fin 5) t0_0 d))
    ∗ (∃ d, owns (c : Thread nD τ) rM fullShare ((dats m ρ 0 c).before (1 : Fin 5) t0_0 d))
    ∗ (∃ d, owns (c : Thread nD τ) iM fullShare ((dats m ρ 0 c).before (2 : Fin 5) t0_0 d))
    ∗ (∃ d, owns (c : Thread nD τ) eM fullShare ((dats m ρ 0 c).before (3 : Fin 5) t0_0 d))
    ∗ (∃ d, owns (c : Thread nD τ) oM fullShare ((dats m ρ 0 c).before (4 : Fin 5) t0_0 d)))
@[inherit_doc pre] def post (c : Dev nD) : sProp 𝕄 :=
  iprop(Φz (F := F) c ∗ (dats m ρ 0 c).owesAt 0 t0_0.succ
    ∗ owns (c : Thread nD τ) xM fullShare (xst m ρ c) ∗ owns (c : Thread nD τ) rM fullShare (rst m ρ c) ∗ owns (c : Thread nD τ) iM fullShare (ist m ρ c)
    ∗ owns (c : Thread nD τ) eM fullShare (est m ρ c) ∗ owns (c : Thread nD τ) oM fullShare (outC m ρ c))

/-- A staged input holds its array's block. -/
theorem before_in (c : Dev nD) (d) : (dats m ρ 0 c).before (0 : Fin 5) t0_0 d = xst m ρ c := by unfold Dat.before; rw [if_pos (fetch0_0 t0_0)]; rfl
@[inherit_doc before_in] theorem before_in1 (c : Dev nD) (d) : (dats m ρ 0 c).before (1 : Fin 5) t0_0 d = rst m ρ c := by unfold Dat.before; rw [if_pos (fetch0_1 t0_0)]; rfl
@[inherit_doc before_in] theorem before_in2 (c : Dev nD) (d) : (dats m ρ 0 c).before (2 : Fin 5) t0_0 d = ist m ρ c := by unfold Dat.before; rw [if_pos (fetch0_2 t0_0)]; rfl
@[inherit_doc before_in] theorem before_in3 (c : Dev nD) (d) : (dats m ρ 0 c).before (3 : Fin 5) t0_0 d = est m ρ c := by unfold Dat.before; rw [if_pos (fetch0_3 t0_0)]; rfl

/-- A device's body from its point's start to its end. -/
theorem point (c : Dev nD) : pre m ρ c ⊢ WP c (onBufs (cc0_body (F := F))) (fun _ => post m ρ c) := by
  unfold pre Φa begins
  simp only [before_in, before_in1, before_in2, before_in3]
  iintro ⟨⟨⟨%K, #HR, Hkit⟩, Hscr⟩, HO, ⟨%d0, Hx⟩, ⟨%d1, Hr⟩, ⟨%d2, Hi⟩, ⟨%d3, He⟩, ⟨%d4, Ho⟩⟩
  unfold Dat.owesAt Pipeline.owesWithin
  icases HO with ⟨%W, %hW, HO⟩
  iapply (wp_fupd _ _ _ _ _)
  iapply (body m ρ K c) $$ HR [HO] Hkit Hscr [Hx Hr Hi He] [Ho]
  · unfold Owes
    iexists W
    iexact HO
  · unfold ins
    isplitl [Hx]; · iexact Hx
    isplitl [Hr]; · iexact Hr
    isplitl [Hi]; · iexact Hi
    iexact He
  · unfold any
    iexists _
    iexact Ho
  iintro HO Hk Hscr Hins Ho
  ihave Hz := (close_all m ρ K c) $$ HR Hk
  imod Hz with Hz
  imodintro
  unfold Owes ins post Φz Dat.owesAt Pipeline.owesWithin
  icases HO with ⟨%W', HO⟩
  icases Hins with ⟨Hx, Hr, Hi, He⟩
  isplitl [Hscr Hz]
  · isplitl [Hscr]; · iexact Hscr
    iexact Hz
  isplitl [HO]
  · iexists W'
    isplitr; · ipureintro; exact fun _ _ => Or.inl trivial
    iexact HO
  isplitl [Hx]; · iexact Hx
  isplitl [Hr]; · iexact Hr
  isplitl [Hi]; · iexact Hi
  isplitl [He]; · iexact He
  iexact Ho

/-- The library's body obligation on every device. -/
theorem body_obligation (c : Dev nD) : BodyObligation (dats m ρ 0 c) (defs₀ (F := F)) 𝒱₀ 0 Set.univ := fun t => by
  rw [fin_N0 t]
  rw [bigSep_W0, bigSep_W0]
  exact point m ρ c

/-! ## The launch -/

/-- The kernel's own semaphores; the barrier's is the launch's. -/
abbrev owned : List Kd := Kd.all.tail
/-- The same, by place. -/
abbrev osem (i : Fin 13) : SemLoc sig := semOf (owned.get i)
/-- The kernel's own semaphores are not those of its windows. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The ghost state of the launch: the pipeline's and the protocol's. -/
def u₀ : UU := (initOf (Pipeline.cells cfgs cellOf_inj) (Pipeline.launchToks cfgs cellOf_inj), initOf cells tokens)

/-- What the launch deals a device: its cells' states, its positions, the tokens of the payments it makes. -/
def G (c : Dev nD) : sProp 𝕄 :=
  iprop((bigSep Finset.univ fun k : Kd => roundState ER (Rd m ρ) (cell k c) 0)
    ∗ (bigSep Finset.univ fun k : Kd => posn (F := F) k c 0) ∗ bigSepL posts fun p => tok (F := F) p c)
/-- What the step over all devices makes of it: every cell's invariant, known to all; the positions; the tokens. -/
def G' (c : Dev nD) : sProp 𝕄 :=
  iprop(∃ K : Dev nD × Kd → ℕ, ((bigSep Finset.univ fun ck : Dev nD × Kd => cellInv ER (Rd m ρ) (K ck) (cell ck.2 ck.1))
      ∗ (bigSep Finset.univ fun ck : Dev nD × Kd => reached ER (cell ck.2 ck.1) 0))
    ∗ (bigSep Finset.univ fun k : Kd => posn (F := F) k c 0) ∗ bigSepL posts fun p => tok (F := F) p c)

/-- The fresh accounts pay for every cell's record. -/
theorem fund_cells : BI.own (ER (initOf cells tokens)) ⊢ (|==> bigSep Finset.univ (G m ρ) : sProp 𝕄) := by
  iintro HX
  imod (Rounds.fund ER (Rd m ρ) cells tokens) $$ HX with ⟨Hst, Hr, Hat, Htok⟩
  imodintro
  ihave Hst' := (Entails.of_eq (cells_eq fun g => roundState ER (Rd m ρ) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq tokens_eq) $$ Htok
  unfold G posn; simp only [bigSep_sep']
  isplitl [Hst']; · iexact Hst'
  isplitl [Hat' Hr']
  · isplitl [Hat'] <;> iassumption
  iexact Htok'

/-- The kernel's own semaphores at zero, one by one; and the barrier's. -/
theorem ownSems0_eq (c : Dev nD) : (Pipeline.ownSems0 (Ix := ℕ) (Name := ℕ) (U := UU) (Lvl := ℕ) (Val := Elt F) (τ := τ) osem c : sProp 𝕄)
    = bigSepL owned fun k => semVal (cell k c) 0 := by
  rw [Pipeline.ownSems0_eq_of_list c osem [0, 1, 2, 3, 4, 5, 6, 7, 8, 9, 10, 11, 12] (by decide) (by decide)]; rfl
@[inherit_doc ownSems0_eq] theorem unscopedSems0_eq (c : Dev nD) : (unscopedSems0 c : sProp 𝕄) = semVal (cell .bar c) 0 := by
  unfold unscopedSems0; rw [bigSep_eq_bigSepL_of_eq [SemLoc.reg barS] (by decide) (by decide)]; rfl
/-- A device's own counters at zero, listed. -/
theorem sems0_eq (c : Dev nD) : (bigSep Finset.univ fun k : Kd => semVal (cell k c) 0 : sProp 𝕄)
    = iprop(unscopedSems0 c ∗ Pipeline.ownSems0 (Ix := ℕ) (Name := ℕ) (U := UU) (Lvl := ℕ) (Val := Elt F) (τ := τ) osem c) := by
  rw [ownSems0_eq, unscopedSems0_eq, bigSep_univ_eq_bigSepL Kd.all (by decide) (by decide)]
  exact bigSepL_cons' Kd.bar owned fun k => (semVal (cell k c) 0 : sProp 𝕄)

/-- On a device the cells' invariants are made of the states and the semaphores at zero. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : Kd => iprop(∃ κ : ℕ, cellInv ER (Rd m ρ) κ (cell k c)))
          ∗ (bigSep Finset.univ fun k : Kd => posn (F := F) k c 0) ∗ bigSepL posts fun p => tok (F := F) p c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Kd => semVal (cell k c) 0) ∗ bigSep Finset.univ fun k : Kd => roundState ER (Rd m ρ) (cell k c) 0)
      ⊢ (|={Set.univ}=> bigSep Finset.univ fun k : Kd => iprop(∃ κ : ℕ, cellInv ER (Rd m ρ) κ (cell k c)) : sProp 𝕄) from by
        rw [← bigSep_sep']
        exact (bigSep_mono fun k _ => (Rounds.body_intro ER (Rd m ρ) (cell k c)).trans inv_alloc).trans (bigSep_fupd _ _)) $$ [Hv Hst] with Hinv
  · isplitl [Hv] <;> iassumption
  imodintro
  isplitl [Hinv]; · iexact Hinv
  isplitl [Hat]; · iexact Hat
  iexact Htok

/-- That a device has come to round 0 of each of its cells, beside its positions. -/
theorem reached_out (c : Dev nD) : (bigSep Finset.univ fun k : Kd => posn (F := F) k c 0)
    ⊢ iprop((bigSep Finset.univ fun k : Kd => (reached ER (cell k c) 0 : sProp 𝕄)) ∗ bigSep Finset.univ fun k : Kd => posn (F := F) k c 0) := by
  rw [← bigSep_sep']
  refine bigSep_mono fun k _ => show posn (F := F) k c 0 ⊢ iprop((reached ER (cell k c) 0 : sProp 𝕄) ∗ posn (F := F) k c 0) from ?_
  unfold posn
  iintro ⟨Ha, #Hr⟩
  isplitr; · iexact Hr
  isplitl [Ha]; · iexact Ha
  iexact Hr

/-- What all devices made of their own cells, dealt to all. -/
theorem regroup :
    (bigSep Finset.univ fun c : Dev nD => iprop((bigSep Finset.univ fun k : Kd => iprop(∃ κ : ℕ, cellInv ER (Rd m ρ) κ (cell k c)))
          ∗ (bigSep Finset.univ fun k : Kd => posn (F := F) k c 0) ∗ bigSepL posts fun p => tok (F := F) p c) : sProp 𝕄)
      ⊢ bigSep Finset.univ (G' m ρ) := by
  rw [bigSep_sep', ← bigSep_univ_prod (fun ck : Dev nD × Kd => iprop(∃ κ : ℕ, cellInv ER (Rd m ρ) κ (cell ck.2 ck.1)))]
  iintro ⟨HI, Hrest⟩
  ihave HK := (BI.bigSep_exists_pi Finset.univ (fun (ck : Dev nD × Kd) (κ : ℕ) => (cellInv ER (Rd m ρ) κ (cell ck.2 ck.1) : sProp 𝕄))) $$ HI
  icases HK with ⟨%K, #HI⟩
  ihave H := (show (bigSep Finset.univ fun c : Dev nD => iprop((bigSep Finset.univ fun k : Kd => posn (F := F) k c 0) ∗ bigSepL posts fun p => tok (F := F) p c) : sProp 𝕄)
      ⊢ iprop((bigSep Finset.univ fun ck : Dev nD × Kd => (reached ER (cell ck.2 ck.1) 0 : sProp 𝕄))
        ∗ bigSep Finset.univ fun c : Dev nD => iprop((bigSep Finset.univ fun k : Kd => posn (F := F) k c 0) ∗ bigSepL posts fun p => tok (F := F) p c)) from by
    rw [bigSep_univ_prod, ← bigSep_sep']
    exact bigSep_mono fun c _ => (sep_mono_left (reached_out c)).trans sep_assoc.1) $$ Hrest
  icases H with ⟨#HR, Hrest⟩
  iapply ((sep_mono_left (BI.bigSep_of_persistent Finset.univ (iprop((bigSep Finset.univ fun ck : Dev nD × Kd => cellInv ER (Rd m ρ) (K ck) (cell ck.2 ck.1))
      ∗ (bigSep Finset.univ fun ck : Dev nD × Kd => reached ER (cell ck.2 ck.1) 0)) : sProp 𝕄))).trans (by
    rw [← bigSep_sep']
    exact bigSep_mono fun c _ => show _ ⊢ G' m ρ c from by
      unfold G'
      iintro H
      iexists K
      iexact H))
  isplitr
  · isplitr; · iexact HI
    iexact HR
  iexact Hrest

/-- The step over all devices: own and launch's semaphores of every device at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- A device's start, from what the launch leaves it. -/
theorem begins_intro (c : Dev nD) :
    iprop(Pipeline.unscopedRestP Pipeline.Prefetch.none cfg0.spec c (fun b => m ((c : Thread nD τ).loc b)) ∗ levAts L lv
        ∗ Pipeline.launchCred (fun d => owed dues d) c ∗ prngReg c (ρ c) ∗ G' m ρ c)
      ⊢ |={Set.univ}=> iprop(begins m ρ c ∗ emp) := by
  unfold begins G'
  iintro ⟨-, Hlev, Hcr, -, ⟨%K, ⟨HI, HR⟩, Hpos, Htok⟩⟩
  ihave Hc := (Entails.of_eq (launch_creds dues c)) $$ Hcr
  imodintro
  isplitl
  · iexists K
    unfold recs
    isplitl [HI HR Hlev]
    · isplitl [HI]; · iexact HI
      isplitl [HR]; · iexact HR
      iexact Hlev
    iapply (kit_intro c)
    isplitl [Htok]; · iexact Htok
    isplitl [Hc]; · iexact Hc
    iexact Hpos
  · iempintro

/-- A whole buffer at some contents. -/
theorem any_whole (c : Dev nD) (b : Ref sig .tc) : (iprop(∃ f : Buf (Elt F) ((c : Thread nD τ).loc b), ((c : Thread nD τ).loc b) ↦{fullShare} f) : sProp 𝕄)
    = iprop(∃ X, owns (c : Thread nD τ) (Memref.whole b) fullShare X) := by
  simp only [owns_whole]

/-- The scratch is the scoped buffers that no window stages. -/
theorem scr_eq (c : Dev nD) : (Pipeline.scopedRest cfg0.spec c : sProp 𝕄) = scr (F := F) c := by
  rw [scopedRest0_eq, any_whole, any_whole, any_whole, any_whole]; rfl

/-- What the region hands over is what a device begins with. -/
theorem phi_in (c : Dev nD) :
    iprop(begins m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(begins m ρ c ∗ scr (F := F) c) from rfl, scr_eq]
  iintro ⟨Hs, -, Hr⟩
  isplitl [Hs]; · iexact Hs
  iexact Hr

/-- What the body leaves is what the region takes back. -/
theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scr (F := F) c ∗ bigSep Finset.univ fun k : Kd => semVal (cell k c) 0) from rfl, scr_eq, sems0_eq]
  iintro ⟨Hr, Hb, Ho⟩
  isplitl [Hb]; · iexact Hb
  isplitl [Ho]; · iexact Ho
  iexact Hr

/-- Every wait of the windows' copies is allowed. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact may_wait 0 dues (by decide) c _
    · exact may_wait 0 [] (by decide) c _

/-! ## The run -/

/-- The contents of a device's arrays after the run. -/
def finalA (c : Dev nD) (w : Fin cfg0.W) : Buf (Elt F) ((cfg0.win w).arr.view.loc (c : Thread nD τ)) := (dats m ρ 0 c).arrAt w cfg0.N

set_option maxRecDepth 8000 in
/-- On the mesh of eight devices, for any float values, from any memory with all counters at zero: every fair execution ends,
    each device's arrays hold the computed contents, every counter is back at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun d => owed dues d) (howed₀ := fun _ => rfl) (howedN := fun _ => rfl)
    (L := L) (lv := lv) (hL := SiteBlocks.hL LN) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := begins m ρ) (Y := fun c => unscopedSems0 c) (Z := fun _ => iprop(emp))
    (hX := begins_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array after the run holds what it held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KernelIdeal.Exchange

end
-- ==== Proof.Mix.lean ====
/-
# The mathematics of a mixture of two experts

What one token gets: the sum over all experts of its scaled products is the two chosen experts' products, each times its
weight; and the two weights are the same whether worked out by the logistic function of the scores' difference or as
quotients of a softmax.
-/
module

public import Idealize.ShloMosaic.Lib.Pointwise
public import Idealize.ShloMosaic.Lib.IdealHost
public import Idealize.ShloMosaic.Lib.Pipeline.ValueKit.Acc

@[expose] public section

noncomputable section

namespace Cert.Mixture

open Idealize.ShloMosaic

/-- One where the words agree, nothing where they do not. -/
def lot (a b : BitVec 32) : EReal := if a = b then 1 else 0

/-- A share is at least zero. -/
theorem lot_nonneg (a b : BitVec 32) : 0 ≤ lot a b := by unfold lot; split <;> simp

/-- A share is not infinite. -/
theorem lot_ne_top (a b : BitVec 32) : lot a b ≠ ⊤ := by
  unfold lot; split
  · exact EReal.coe_ne_top 1
  · exact EReal.zero_ne_top

/-- The kernel's comparison, widened and read as a number. -/
theorem lot_eq (a b : BitVec 32) :
    FloatOps.sitofp (F := Ideal) .f32 (BitVec.setWidth 32 (IntOp.cmpi .eq a b)) = lot a b := by
  unfold lot
  show (((BitVec.setWidth 32 (IntOp.cmpi .eq a b)).toInt : ℝ) : EReal) = _
  by_cases h : a = b
  · subst h
    simp [IntOp.cmpi]
  · simp [IntOp.cmpi, beq_eq_false_iff_ne.mpr h, h]

/-- What one expert, numbered `k` and of column `r`, adds to a token `x` of choices `a`, `b` and weights `u`, `v`. -/
def part (x : Fin 512 → EReal) (u v : EReal) (a b k : BitVec 32) (r : Fin 512 → EReal) : EReal :=
  ∑ d, x d * (u * lot a k + v * lot b k) * r d

/-- Over all the experts, a token gets its two choices' products, each times its weight. -/
theorem sum_part (x : Fin 512 → EReal) (u v : EReal) (hu : 0 ≤ u) (hu' : u ≠ ⊤) (hv : 0 ≤ v) (hv' : v ≠ ⊤) (a b : BitVec 32)
    (A B : Fin 32) (ha : a = BitVec.ofNat 32 A.val) (hb : b = BitVec.ofNat 32 B.val) (W : Fin 32 → Fin 512 → EReal) :
    ∑ k : Fin 32, part x u v a b (BitVec.ofNat 32 k.val) (W k) = u * (∑ d, x d * W A d) + v * ∑ d, x d * W B d := by
  have hl : ∀ C k : Fin 32, lot (BitVec.ofNat 32 C.val) (BitVec.ofNat 32 k.val) = if C = k then 1 else 0 := by
    intro C k; unfold lot; congr 1
    refine propext ⟨fun h => Fin.ext ?_, fun h => by rw [h]⟩
    have := congrArg BitVec.toNat h
    simp only [BitVec.toNat_ofNat] at this
    have h1 := C.isLt; have h2 := k.isLt
    omega
  have hs : ∀ (w : EReal) (C : Fin 32), 0 ≤ w → w ≠ ⊤ →
      ∑ k : Fin 32, ∑ d, (w * if C = k then 1 else 0) * (x d * W k d) = w * ∑ d, x d * W C d := by
    intro w C h0 h1
    rw [Finset.sum_eq_single C (fun k _ hk => by simp [Ne.symm hk]) (fun h => absurd (Finset.mem_univ _) h)]
    simp only [if_true, mul_one]
    induction (Finset.univ : Finset (Fin 512)) using Finset.induction_on with
    | empty => simp
    | insert i s hi ih => rw [Finset.sum_insert hi, Finset.sum_insert hi, ih, EReal.left_distrib_of_nonneg_of_ne_top h0 h1]
  rw [← hs u A hu hu', ← hs v B hv hv', ← Finset.sum_add_distrib]
  refine Finset.sum_congr rfl fun k _ => ?_
  unfold part
  rw [← Finset.sum_add_distrib]
  refine Finset.sum_congr rfl fun d _ => ?_
  rw [ha, hb, hl, hl, mul_comm (x d), mul_assoc, EReal.right_distrib_of_nonneg]
  · exact mul_nonneg hu (by split <;> simp)
  · exact mul_nonneg hv (by split <;> simp)

/-- A sum of real numbers is real. -/
theorem sum_coe {n : ℕ} (f : Fin n → ℝ) : ∑ k, ((f k : ℝ) : EReal) = ((∑ k, f k : ℝ) : EReal) := by
  induction (Finset.univ : Finset (Fin n)) using Finset.induction_on with
  | empty => simp
  | insert i s hi ih => rw [Finset.sum_insert hi, Finset.sum_insert hi, ih, EReal.coe_add]

/-- A quotient of real numbers is real. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A value whose magnitude is below the top is real. -/
theorem real_of_abs {x : EReal} (h : max x (-x) < ⊤) : x = (x.toReal : EReal) := by
  refine (EReal.coe_toReal (fun e => ?_) (fun e => ?_)).symm <;> subst e <;> simp at h

/-- A token's score against real tokens and a real router is real. -/
theorem score_coe (x R : Fin 512 → EReal) (hx : ∀ d, x d = ((x d).toReal : EReal)) (hR : ∀ d, R d = ((R d).toReal : EReal)) :
    ∑ d, x d * R d = ((∑ d, (x d).toReal * (R d).toReal : ℝ) : EReal) := by
  rw [← sum_coe]
  exact Finset.sum_congr rfl fun d _ => by rw [EReal.coe_mul, ← hx, ← hR]

/-- The weights, in real numbers: the first choice's by the logistic function of the difference of the two scores, the second
    what is left; and by quotients of exponentials shifted by any `M` and scaled by any sum `S`. -/
theorem weights (p q M S : ℝ) (hS : 0 < S) :
    (1 + Real.exp (-(p - q)))⁻¹ = (Real.exp (p - M) / S) / (Real.exp (p - M) / S + Real.exp (q - M) / S)
      ∧ 1 - (1 + Real.exp (-(p - q)))⁻¹ = (Real.exp (q - M) / S) / (Real.exp (p - M) / S + Real.exp (q - M) / S) := by
  have hp : Real.exp (p - M) = Real.exp p * Real.exp (-M) := by rw [← Real.exp_add]; ring_nf
  have hq : Real.exp (q - M) = Real.exp q * Real.exp (-M) := by rw [← Real.exp_add]; ring_nf
  have hd : Real.exp (-(p - q)) = Real.exp q / Real.exp p := by rw [← Real.exp_sub]; ring_nf
  have h1 := Real.exp_pos p
  have h2 := Real.exp_pos q
  have h3 := Real.exp_pos (-M)
  rw [hp, hq, hd]
  constructor
  · field_simp
  · field_simp; ring

end Cert.Mixture
-- ==== Proof.Passes.lean ====
/-
# One pass over a block of experts, read at an element

Every pass of the kernel does the same: it scales each token once for each expert of the block, by the token's weight
for that expert, and multiplies the scaled tokens with the experts' matrices laid one under the other.
-/
module

public import proofs.«01_k».proof.Proof.Body
public import proofs.«01_k».proof.Proof.Mix

@[expose] public section

set_option maxRecDepth 16384

noncomputable section

namespace Cert.KernelIdeal.Exchange

open Cert.KernelIdeal Cert.KernelIdeal.Gen
open Idealize.ShloMosaic Idealize.ShloMosaic.TcCoe Cert.Mixture

variable {F : FTy → Type} [FloatOps F]

/-- A token's weight for each of two experts numbered from `B`: what its two choices give. -/
def share2 (B : BitVec 32) (h0 h1 : IVec S1024x1 32) (w0 w1 : FVec F S1024 .f32) : FVec F S1024x2 .bf16 :=
  let ids : IVec S1x2 32 := addi (broadcast S1x2 B) (iota .tc S1x2 32 [1] iota_S1x2_d1_w32)
  let hit (h : IVec S1024x1 32) : FVec F S1024x2 .f32 :=
    sitofp .f32 (extui 32 (cmpi .eq (broadcastTo S1024x2 h broadcasts_S1024x1_S1024x2) (broadcastTo S1024x2 ids broadcasts_S1x2_S1024x2)) natLt_1_32)
  let put (w : FVec F S1024 .f32) : FVec F S1024x2 .f32 :=
    broadcastTo S1024x2 (shapeCast S1024x1 w shapeCasts_S1024_S1024x1) broadcasts_S1024x1_S1024x2
  truncf .bf16 (addf (mulf (put w0) (hit h0)) (mulf (put w1) (hit h1))) bitsLt_bf16_f32

/-- The pass over two experts numbered from `B`, of matrices `E`. -/
def pass2 (B : BitVec 32) (h0 h1 : IVec S1024x1 32) (w0 w1 : FVec F S1024 .f32) (x : FVec F S1024x512 .bf16)
    (E : FVec F S2x512x1024 .bf16) : FVec F S1024x1024 .f32 :=
  matmul dot_S1024x1024_S1024x1024_S1024x1024_1_0_0_1_n_n none
    (shapeCast S1024x1024
      (mulf (broadcastTo S1024x2x512 (shapeCast S1024x1x512 x shapeCasts_S1024x512_S1024x1x512) broadcasts_S1024x1x512_S1024x2x512)
        (broadcastTo S1024x2x512 (shapeCast S1024x2x1 (share2 B h0 h1 w0 w1) shapeCasts_S1024x2_S1024x2x1) broadcasts_S1024x2x1_S1024x2x512))
      shapeCasts_S1024x2x512_S1024x1024)
    (shapeCast S1024x1024 E shapeCasts_S2x512x1024_S1024x1024) (constant S1024x1024 .f32 0x00000000#32)

/-- THE PASS OVER TWO EXPERTS, read at token `t` and column `j`. -/
theorem pass2_apply (B : BitVec 32) (h0 h1 : IVec S1024x1 32) (w0 w1 : FVec Ideal S1024 .f32) (x : FVec Ideal S1024x512 .bf16)
    (E : FVec Ideal S2x512x1024 .bf16) (t : Fin 1024) (j : Fin 1024) :
    pass2 B h0 h1 w0 w1 x E (ix2 t j)
      = ∑ i : Fin 2, part (fun d => x (ix2 t d)) (w0 (ix1 t)) (w1 (ix1 t)) (h0 (ix2 t 0)) (h1 (ix2 t 0)) (B + BitVec.ofNat 32 i.val)
          (fun d => E (ix3 i d j)) := by
  pointwise [pass2, share2]
  refine Fin.sum_divmod_congr (fun k ha hs => ?_) (by decide)
  rw [lot_eq, lot_eq]
  rfl

/-- A token's weight for each of four experts numbered from `B`: what its two choices give. -/
def share4 (B : BitVec 32) (h0 h1 : IVec S1024x1 32) (w0 w1 : FVec F S1024 .f32) : FVec F S1024x4 .bf16 :=
  let ids : IVec S1x4 32 := addi (broadcast S1x4 B) (iota .tc S1x4 32 [1] iota_S1x4_d1_w32)
  let hit (h : IVec S1024x1 32) : FVec F S1024x4 .f32 :=
    sitofp .f32 (extui 32 (cmpi .eq (broadcastTo S1024x4 h broadcasts_S1024x1_S1024x4) (broadcastTo S1024x4 ids broadcasts_S1x4_S1024x4)) natLt_1_32)
  let put (w : FVec F S1024 .f32) : FVec F S1024x4 .f32 :=
    broadcastTo S1024x4 (shapeCast S1024x1 w shapeCasts_S1024_S1024x1) broadcasts_S1024x1_S1024x4
  truncf .bf16 (addf (mulf (put w0) (hit h0)) (mulf (put w1) (hit h1))) bitsLt_bf16_f32

/-- The pass over four experts numbered from `B`, their matrices `E` already laid one under the other. -/
def pass4 (B : BitVec 32) (h0 h1 : IVec S1024x1 32) (w0 w1 : FVec F S1024 .f32) (x : FVec F S1024x512 .bf16)
    (E : FVec F S2048x1024 .bf16) : FVec F S1024x1024 .f32 :=
  matmul dot_S1024x2048_S2048x1024_S1024x1024_1_0_0_1_n_n none
    (shapeCast S1024x2048
      (mulf (broadcastTo S1024x4x512 (shapeCast S1024x1x512 x shapeCasts_S1024x512_S1024x1x512) broadcasts_S1024x1x512_S1024x4x512)
        (broadcastTo S1024x4x512 (shapeCast S1024x4x1 (share4 B h0 h1 w0 w1) shapeCasts_S1024x4_S1024x4x1) broadcasts_S1024x4x1_S1024x4x512))
      shapeCasts_S1024x4x512_S1024x2048) E (constant S1024x1024 .f32 0x00000000#32)

/-- THE PASS OVER FOUR EXPERTS, read at token `t` and column `j`. -/
theorem pass4_apply (B : BitVec 32) (h0 h1 : IVec S1024x1 32) (w0 w1 : FVec Ideal S1024 .f32) (x : FVec Ideal S1024x512 .bf16)
    (E : FVec Ideal S2048x1024 .bf16) (G : Fin 4 → Fin 512 → EReal) (t : Fin 1024) (j : Fin 1024)
    (hE : ∀ (k : Fin 2048) (ha : k.val / 512 < 4) (hs : k.val % 512 < 512), E (ix2 k j) = G ⟨k.val / 512, ha⟩ ⟨k.val % 512, hs⟩) :
    pass4 B h0 h1 w0 w1 x E (ix2 t j)
      = ∑ i : Fin 4, part (fun d => x (ix2 t d)) (w0 (ix1 t)) (w1 (ix1 t)) (h0 (ix2 t 0)) (h1 (ix2 t 0)) (B + BitVec.ofNat 32 i.val) (G i) := by
  pointwise [pass4, share4]
  refine Fin.sum_divmod_congr (fun k ha hs => ?_) (by decide)
  rw [lot_eq, lot_eq, ← hE k ha hs]
  rfl

variable (m : (ℓ : Loc nD τ sig) → Buf (Elt F) ℓ) (ρ : Dev nD → PrngReg) (c : Dev nD)

/-- A slot's block as the pass takes it. -/
def laid (w : FVec F S2x512x1024 .bf16) : FVec F S2x512x1024 .bf16 :=
  shapeCast S2x512x1024 (up w) shapeCasts_S1x2x512x1024_S2x512x1024

/-- The first expert of the block that direction `d`'s slot holds after hop `h`, as the kernel works it out: in the same
    plane, and in the other one. -/
def near (d : Bool) (h : BitVec 32) : BitVec 32 :=
  match d with
  | true => Scalar.muli (Scalar.addi (wd4 c) (Scalar.remsi (Scalar.addi (Scalar.subi (wd3 c) h) 4#32) 4#32)) 4#32
  | false => Scalar.addi (Scalar.muli (Scalar.addi (wd4 c) (Scalar.remsi (Scalar.addi (wd3 c) h) 4#32)) 4#32) 2#32
@[inherit_doc near] def far (d : Bool) (h : BitVec 32) : BitVec 32 :=
  match d with
  | true => Scalar.muli (Scalar.remsi (Scalar.addi (Scalar.addi (wd4 c) (Scalar.remsi (Scalar.addi (Scalar.subi (wd3 c) h) 4#32) 4#32)) 4#32) 8#32) 4#32
  | false => Scalar.addi (Scalar.muli (Scalar.remsi (Scalar.addi (Scalar.addi (wd4 c) (Scalar.remsi (Scalar.addi (wd3 c) h) 4#32)) 4#32) 8#32) 4#32) 2#32

/-- The pass over direction `d`'s slot after hop `h`, its first expert numbered `B`. -/
abbrev hopPass (d : Bool) (h : ℕ) (B : BitVec 32) : FVec F S1024x1024 .f32 :=
  pass2 B (ch0 m ρ c) (ch1 m ρ c) (wt0 m ρ c) (wt1 m ρ c) (xb m ρ c) (laid (con m ρ d h c))

/-- An accumulator loaded again. -/
abbrev again (a : FVec F S1024x1024 .f32) : FVec F S1024x1024 .f32 := shapeCast S1024x1024 a shapeCasts_S1024x1024_S1024x1024

/-- Each pass's result, as the one before it with one block's products added. -/
theorem out1_eq : out1 m ρ c = pass4 (Scalar.muli (wd2 c) 4#32) (ch0 m ρ c) (ch1 m ρ c) (wt0 m ρ c) (wt1 m ρ c) (xb m ρ c)
    (truncf .bf16 (shapeCast S2048x1024 (k0_pay12 (est m ρ c)) shapeCasts_S4x512x1024_S2048x1024) bitsLt_bf16_f32) := rfl
theorem out2_eq : out2 m ρ c = addf (again (out1 m ρ c)) (hopPass m ρ c true 1 (near c true 1#32)) := rfl
theorem out3_eq : out3 m ρ c = addf (again (out2 m ρ c)) (hopPass m ρ c false 1 (near c false 1#32)) := rfl
theorem out4_eq : out4 m ρ c = addf (again (out3 m ρ c)) (hopPass m ρ c true 2 (near c true 2#32)) := rfl
theorem out5_eq : out5 m ρ c = addf (again (out4 m ρ c)) (hopPass m ρ c false 2 (near c false 2#32)) := rfl
theorem out6_eq : out6 m ρ c = addf (again (out5 m ρ c)) (hopPass m ρ c true 3 (near c true 3#32)) := rfl
theorem out7_eq : out7 m ρ c = addf (again (out6 m ρ c)) (hopPass m ρ c false 3 (near c false 3#32)) := rfl
theorem out9_eq : out9 m ρ c = addf (again (out8 m ρ c)) (hopPass m ρ c true 4 (far c true 1#32)) := rfl
theorem out10_eq : out10 m ρ c = addf (again (out9 m ρ c)) (hopPass m ρ c false 4 (far c false 1#32)) := rfl
theorem out11_eq : out11 m ρ c = addf (again (out10 m ρ c)) (hopPass m ρ c true 5 (far c true 2#32)) := rfl
theorem out12_eq : out12 m ρ c = addf (again (out11 m ρ c)) (hopPass m ρ c false 5 (far c false 2#32)) := rfl
theorem out13_eq : out13 m ρ c = addf (again (out12 m ρ c)) (hopPass m ρ c true 6 (far c true 3#32)) := rfl
theorem outC_eq : outC m ρ c = addf (again (out13 m ρ c)) (hopPass m ρ c false 6 (far c false 3#32)) := rfl

end Cert.KernelIdeal.Exchange
-- ==== Proof.Blocks.lean ====
/-
# Whose experts a slot holds, and the result as a sum over all the experts

Which device each block that lands started from, the number of its first expert as the kernel works it out, and what
adding up all the passes comes to.
-/
module

public import proofs.«01_k».proof.Proof.Passes

@[expose] public section

set_option maxRecDepth 16384

noncomputable section

namespace Cert.KernelIdeal.Exchange

open Cert.KernelIdeal Cert.KernelIdeal.Gen
open Idealize.ShloMosaic Idealize.ShloMosaic.TcCoe Cert.Mixture

/-- The device whose experts direction `d`'s slot on device `c` holds after hop `h`. -/
def orig (d : Bool) : ℕ → Dev nD → Dev nD
  | 0, c => c
  | h + 1, c => if h + 1 = 4 then zp (src d c) else orig d h (src d c)

/-- The first of the two experts of a block that direction `d` carries. -/
def low (d : Bool) (i : Fin 2) : Fin 4 := ⟨zoff d + i.val, by have := i.isLt; cases d <;> (simp only [zoff]; omega)⟩

/-- The number of a device's expert. -/
def num (o : Dev nD) (i : Fin 4) : BitVec 32 := BitVec.ofNat 32 (4 * o.val + i.val)

/-- The number that the kernel works out for a block of its own ring's hops is the expert's own. -/
theorem near_num : ∀ (c : Dev nD) (d : Bool) (h : Fin 4) (i : Fin 2), h ≠ 0 →
    near c d (BitVec.ofNat 32 h.val) + BitVec.ofNat 32 i.val = num (orig d h.val c) (low d i) := by decide

/-- So is the number for a block that started in the other plane. -/
theorem far_num : ∀ (c : Dev nD) (d : Bool) (h : Fin 4) (i : Fin 2), h ≠ 0 →
    far c d (BitVec.ofNat 32 h.val) + BitVec.ofNat 32 i.val = num (orig d (h.val + 3) c) (low d i) := by decide

/-- So is the number for the device's own experts. -/
theorem own_num : ∀ (c : Dev nD) (i : Fin 4), Scalar.muli (wd2 c) 4#32 + BitVec.ofNat 32 i.val = num c i := by decide

/-- So is the number for the plane neighbour's experts. -/
theorem mate_num : ∀ (c : Dev nD) (i : Fin 4), Scalar.muli (wd13 c) 4#32 + BitVec.ofNat 32 i.val = num (zp c) i := by decide

/-- A block laid down in a slot and taken up again is the block. -/
theorem laid_eq {F : FTy → Type} (w : FVec F S2x512x1024 .bf16) : laid w = w :=
  funext fun j => congrArg w (Equiv.symm_apply_apply _ j)

variable (m : (ℓ : Loc nD τ sig) → Buf (Elt Ideal) ℓ) (ρ : Dev nD → PrngReg) (c : Dev nD)

/-- A device's rounded experts are its experts. -/
theorem zC_apply (i : Fin 4) (e : Fin 512) (j : Fin 1024) : zC m ρ c (ix3 i e j) = est m ρ c (ix3 i e j) := by
  pointwise [zC, k0_pay11, k0_pay8]

/-- One direction's half of four experts, read at an element. -/
theorem half_apply (d : Bool) (w : FVec Ideal S4x512x1024 .bf16) (i : Fin 2) (e : Fin 512) (j : Fin 1024) :
    half (F := Ideal) d w (ix3 i e j) = w (ix3 (low d i) e j) := by
  unfold half
  refine congrArg w (funext fun a => Fin.ext ?_)
  match a with
  | ⟨0, _⟩ => cases d <;> simp [Rect.emb, Rect.unit, low, ix3]
  | ⟨1, _⟩ => simp [Rect.emb, Rect.unit, low, ix3]
  | ⟨2, _⟩ => simp [Rect.emb, Rect.unit, low, ix3]

/-- What a direction's first slot holds is that half of the device's own experts. -/
theorem own_apply (d : Bool) (i : Fin 2) (e : Fin 512) (j : Fin 1024) :
    own m ρ d c (ix3 i e j) = est m ρ c (ix3 (low d i) e j) := by
  cases d
  · show shapeCast S2x512x1024 (k0_pay10 (est m ρ c)) shapeCasts_S1x2x512x1024_S2x512x1024 (ix3 i e j) = _
    pointwise [k0_pay10, k0_pay8]
    rfl
  · show shapeCast S2x512x1024 (k0_pay9 (est m ρ c)) shapeCasts_S1x2x512x1024_S2x512x1024 (ix3 i e j) = _
    pointwise [k0_pay9, k0_pay8]
    exact congrArg (fun i => est m ρ c (ix3 i e j)) (Fin.ext (Nat.zero_add _).symm)

/-- After hop `h`, a slot holds a pair of experts of the device it started from. -/
theorem con_apply (d : Bool) (i : Fin 2) (e : Fin 512) (j : Fin 1024) : ∀ (h : ℕ) (c : Dev nD),
    con m ρ d h c (ix3 i e j) = est m ρ (orig d h c) (ix3 (low d i) e j)
  | 0, c => own_apply m ρ c d i e j
  | h + 1, c => by
    show (if h + 1 = 4 then half d (zC m ρ (zp (src d c))) else con m ρ d h (src d c)) (ix3 i e j) = _
    unfold orig
    split
    · rw [half_apply, zC_apply]
    · exact con_apply d i e j h (src d c)

/-- What device `c` adds to token `t`'s column `j` for expert `i` of device `o`. -/
def add (t j : Fin 1024) (o : Dev nD) (i : Fin 4) : EReal :=
  part (fun d => xb m ρ c (ix2 t d)) (wt0 m ρ c (ix1 t)) (wt1 m ρ c (ix1 t)) (ch0 m ρ c (ix2 t 0)) (ch1 m ρ c (ix2 t 0)) (num o i)
    (fun d => est m ρ o (ix3 i d j))

/-- Storing and loading a result leaves it as it was. -/
theorem again_apply (a : FVec Ideal S1024x1024 .f32) (t j : Fin 1024) : again a (ix2 t j) = a (ix2 t j) := by pointwise

/-- A hop's pass adds the two experts of the block that landed. -/
theorem hop_apply (t j : Fin 1024) (d : Bool) (h : ℕ) (B : BitVec 32)
    (hB : ∀ i : Fin 2, B + BitVec.ofNat 32 i.val = num (orig d h c) (low d i)) (a : FVec Ideal S1024x1024 .f32) :
    addf (again a) (hopPass m ρ c d h B) (ix2 t j) = a (ix2 t j) + ∑ i : Fin 2, add m ρ c t j (orig d h c) (low d i) := by
  show again a (ix2 t j) + hopPass m ρ c d h B (ix2 t j) = _
  rw [again_apply, show hopPass m ρ c d h B (ix2 t j) = _ from pass2_apply B _ _ _ _ _ _ t j, laid_eq]
  congr 1
  refine Finset.sum_congr rfl fun i _ => ?_
  unfold add
  rw [hB i]
  simp only [con_apply]

/-- A device's experts laid one under the other, read at a row. -/
theorem under_apply (E : FVec Ideal S4x512x1024 .bf16) (j : Fin 1024) (k : Fin 2048) (ha : k.val / 512 < 4) (hs : k.val % 512 < 512) :
    shapeCast S2048x1024 E shapeCasts_S4x512x1024_S2048x1024 (ix2 k j) = E (ix3 ⟨k.val / 512, ha⟩ ⟨k.val % 512, hs⟩ j) := by
  pointwise

/-- The first pass leaves the device's own four experts' products. -/
theorem out1_apply (t j : Fin 1024) : out1 m ρ c (ix2 t j) = ∑ i : Fin 4, add m ρ c t j c i := by
  rw [out1_eq, pass4_apply (G := fun i d => est m ρ c (ix3 i d j))]
  · exact Finset.sum_congr rfl fun i _ => by rw [own_num]; rfl
  · intro k ha hs
    pointwise [k0_pay12]

/-- The eighth pass adds the plane neighbour's four experts. -/
theorem out8_eq : out8 m ρ c = addf (again (out7 m ρ c)) (pass4 (Scalar.muli (wd13 c) 4#32) (ch0 m ρ c) (ch1 m ρ c) (wt0 m ρ c) (wt1 m ρ c)
    (xb m ρ c) (shapeCast S2048x1024 (zC m ρ (zp c)) shapeCasts_S4x512x1024_S2048x1024)) := rfl

/-- The eighth pass, read at an element. -/
theorem out8_apply (t j : Fin 1024) : out8 m ρ c (ix2 t j) = out7 m ρ c (ix2 t j) + ∑ i : Fin 4, add m ρ c t j (zp c) i := by
  rw [out8_eq]
  generalize out7 m ρ c = a
  show again a (ix2 t j) + _ = _
  rw [again_apply, pass4_apply (G := fun i d => est m ρ (zp c) (ix3 i d j))]
  · refine congrArg (a (ix2 t j) + ·) (Finset.sum_congr rfl fun i _ => ?_)
    unfold add
    rw [mate_num]
  · intro k ha hs
    rw [← zC_apply, under_apply]

/-- The devices whose experts direction `d` brings to device `c`, its own and its partner's among them. -/
def met (d : Bool) (c : Dev nD) (k : Fin 8) : Dev nD :=
  if k = 0 then c else if k = 7 then zp c else orig d k.val c

/-- In each direction the blocks that a device meets start from every device once. -/
theorem met_bijective (d : Bool) (c : Dev nD) : Function.Bijective (met d c) :=
  (Fintype.bijective_iff_injective_and_card _).mpr ⟨by revert d c; decide, rfl⟩

/-- Each direction brings every device's pair once. -/
theorem sum_met (d : Bool) (c : Dev nD) (A : Dev nD → EReal) :
    ∑ o, A o = A c + A (orig d 1 c) + A (orig d 2 c) + A (orig d 3 c) + A (orig d 4 c) + A (orig d 5 c) + A (orig d 6 c) + A (zp c) := by
  rw [← (met_bijective d c).sum_comp A, Fin.sum_univ_eight]
  rfl

/-- THE RESULT: every device's every expert, once. -/
theorem outC_apply (t j : Fin 1024) : outC m ρ c (ix2 t j) = ∑ o : Dev nD, ∑ i : Fin 4, add m ρ c t j o i := by
  have h (d : Bool) (k : Fin 4) (hk : k ≠ 0) := fun i => near_num c d k i hk
  have g (d : Bool) (k : Fin 4) (hk : k ≠ 0) := fun i => far_num c d k i hk
  rw [outC_eq, hop_apply m ρ c t j false 6 (far c false 3#32) (g false 3 (by decide)), out13_eq, hop_apply m ρ c t j true 6 (far c true 3#32) (g true 3 (by decide)),
    out12_eq, hop_apply m ρ c t j false 5 (far c false 2#32) (g false 2 (by decide)), out11_eq, hop_apply m ρ c t j true 5 (far c true 2#32) (g true 2 (by decide)),
    out10_eq, hop_apply m ρ c t j false 4 (far c false 1#32) (g false 1 (by decide)), out9_eq, hop_apply m ρ c t j true 4 (far c true 1#32) (g true 1 (by decide)),
    out8_apply, out7_eq, hop_apply m ρ c t j false 3 (near c false 3#32) (h false 3 (by decide)), out6_eq, hop_apply m ρ c t j true 3 (near c true 3#32) (h true 3 (by decide)),
    out5_eq, hop_apply m ρ c t j false 2 (near c false 2#32) (h false 2 (by decide)), out4_eq, hop_apply m ρ c t j true 2 (near c true 2#32) (h true 2 (by decide)),
    out3_eq, hop_apply m ρ c t j false 1 (near c false 1#32) (h false 1 (by decide)), out2_eq, hop_apply m ρ c t j true 1 (near c true 1#32) (h true 1 (by decide)), out1_apply]
  generalize add m ρ c t j = f
  have hs : ∀ o, ∑ i : Fin 4, f o i = ∑ i : Fin 2, f o (low true i) + ∑ i : Fin 2, f o (low false i) := by
    intro o
    rw [Fin.sum_univ_four, Fin.sum_univ_two, Fin.sum_univ_two, add_assoc (_ + _)]
    rfl
  simp only [hs]
  rw [Finset.sum_add_distrib, sum_met true c, sum_met false c]
  abel

end Cert.KernelIdeal.Exchange
-- ==== Proof.Weights.lean ====
/-
# The kernel's inputs and weights, read at an element
-/
module

public import proofs.«01_k».proof.Proof.Blocks
public import proofs.«01_k».proof.Proof.Launch
public import Idealize.ShloMosaic.Lib.Pipeline.ValueKit

@[expose] public section

set_option maxRecDepth 16384

noncomputable section

namespace Cert.KernelIdeal.Exchange

open Cert.KernelIdeal Cert.KernelIdeal.Gen
open Idealize.ShloMosaic Idealize.ShloMosaic.TcCoe Cert.Mixture

/-- The scores picked out by a token's choice add up to its score for the chosen expert. -/
theorem sum_select (s : Fin 32 → EReal) (w : BitVec 32) (A : Fin 32) (hA : w = BitVec.ofNat 32 A.val) (z : EReal) (hz : z = 0) :
    ∑ k : Fin 32, Scalar.select (IntOp.cmpi .eq (BitVec.ofNat 32 k.val) w) (s k) z = s A := by
  subst hA hz
  rw [Finset.sum_eq_single A]
  · simp [Scalar.select, IntOp.cmpi]
  · intro k _ hk
    have hne : BitVec.ofNat 32 k.val ≠ BitVec.ofNat 32 A.val := fun h => hk (Fin.ext (by
      have := congrArg BitVec.toNat h
      simp only [BitVec.toNat_ofNat] at this
      have h1 := k.isLt; have h2 := A.isLt
      omega))
    simp [Scalar.select, IntOp.cmpi, beq_eq_false_iff_ne.mpr hne]
  · exact fun h => absurd (Finset.mem_univ _) h

variable (m : (ℓ : Loc nD τ sig) → Buf (Elt Ideal) ℓ) (ρ : Dev nD → PrngReg) (c : Dev nD)

/-- A token's first choice, as the kernel cuts it out. -/
theorem ch0_apply (t : Fin 1024) (z : Fin 1) : ch0 m ρ c (ix2 t z) = ist m ρ c (ix2 t 0) := by
  pointwise [ch0, k0_pay3, col]
  refine congrArg (ist m ρ c) (funext fun a => Fin.ext ?_)
  match a with
  | ⟨0, _⟩ => simp [Rect.emb, Rect.unit, ix2]
  | ⟨1, _⟩ => simp [Rect.emb, Rect.unit, ix2]
@[inherit_doc ch0_apply] theorem ch1_apply (t : Fin 1024) (z : Fin 1) : ch1 m ρ c (ix2 t z) = ist m ρ c (ix2 t 1) := by
  pointwise [ch1, k0_pay4, col]
  refine congrArg (ist m ρ c) (funext fun a => Fin.ext ?_)
  match a with
  | ⟨0, _⟩ => simp [Rect.emb, Rect.unit, ix2]
  | ⟨1, _⟩ => simp [Rect.emb, Rect.unit, ix2]

/-- A token's features, as the kernel rounds them. -/
theorem xb_apply (t : Fin 1024) (d : Fin 512) : xb m ρ c (ix2 t d) = xst m ρ c (ix2 t d) := by
  pointwise [xb, k0_pay7, k0_pay1]

/-- The first weight of a token with real scores. -/
theorem wt0_apply (t : Fin 1024) (r : Fin 32 → ℝ) (hr : ∀ k, ∑ d : Fin 512, xst m ρ c (ix2 t d) * rst m ρ c (ix2 d k) = (r k : EReal))
    (A B : Fin 32) (hA : ist m ρ c (ix2 t 0) = BitVec.ofNat 32 A.val) (hB : ist m ρ c (ix2 t 1) = BitVec.ofNat 32 B.val) :
    wt0 m ρ c (ix1 t) = (((1 + Real.exp (-(r A - r B)))⁻¹ : ℝ) : EReal) := by
  have h0 := (ch0_apply m ρ c t 0).trans hA
  have h1 := (ch1_apply m ρ c t 0).trans hB
  unfold ch0 at h0
  unfold ch1 at h1
  pointwise [wt0, k0_pay5, k0_pay2, k0_pay1]
  rw [sum_select _ _ A h0 _ (by first | rfl | simp), sum_select _ _ B h1 _ (by first | rfl | simp), hr, hr]
  have hpos : (1 + Real.exp (-(r A - r B)) : ℝ) ≠ 0 := (by positivity : (0:ℝ) < 1 + Real.exp (-(r A - r B))).ne'
  have h := div_coe 1 (1 + Real.exp (-(r A - r B))) hpos
  rw [one_div] at h
  rw [← h]
  rfl

/-- The second weight of a token with real scores. -/
theorem wt1_apply (t : Fin 1024) (r : Fin 32 → ℝ) (hr : ∀ k, ∑ d : Fin 512, xst m ρ c (ix2 t d) * rst m ρ c (ix2 d k) = (r k : EReal))
    (A B : Fin 32) (hA : ist m ρ c (ix2 t 0) = BitVec.ofNat 32 A.val) (hB : ist m ρ c (ix2 t 1) = BitVec.ofNat 32 B.val) :
    wt1 m ρ c (ix1 t) = ((1 - (1 + Real.exp (-(r A - r B)))⁻¹ : ℝ) : EReal) := by
  have h := wt0_apply m ρ c t r hr A B hA hB
  unfold wt0 at h
  pointwise [wt1, k0_pay6]
  rw [h, EReal.coe_sub, EReal.coe_one]

/-- Every window's block is its whole array. -/
theorem at_zero (a) : win0_0.index (0 : Fin 1) a = 0 := rfl
@[inherit_doc at_zero] theorem at_zero1 (a) : win0_1.index (0 : Fin 1) a = 0 := rfl
@[inherit_doc at_zero] theorem at_zero2 (a) : win0_2.index (0 : Fin 1) a = 0 := rfl
@[inherit_doc at_zero] theorem at_zero3 (a) : win0_3.index (0 : Fin 1) a = 0 := rfl

/-- An element of a staged input is the argument's. -/
theorem xst_apply (t d) : xst m ρ c (ix2 t d) = m ((c : Thread nD τ).loc main_arg0) (ix2 t d) := by
  unfold xst
  blk_ext [at_zero]
@[inherit_doc xst_apply] theorem rst_apply (t d) : rst m ρ c (ix2 t d) = m ((c : Thread nD τ).loc main_arg1) (ix2 t d) := by
  unfold rst
  blk_ext [at_zero1]
@[inherit_doc xst_apply] theorem ist_apply (t d) : ist m ρ c (ix2 t d) = m ((c : Thread nD τ).loc main_arg2) (ix2 t d) := by
  unfold ist
  blk_ext [at_zero2]
@[inherit_doc xst_apply] theorem est_apply (t d e) : est m ρ c (ix3 t d e) = m ((c : Thread nD τ).loc main_arg3) (ix3 t d e) := by
  unfold est
  blk_ext [at_zero3]

/-- The output array after the run is what the body left. -/
theorem finalA_out : finalA m ρ c (4 : Fin 5) = outC m ρ c := by
  unfold finalA
  refine (dats m ρ 0 c).arrAt_eq_of_after_last (4 : Fin 5) t0_0 (by decide +kernel) _ fun j => ?_
  blk_simp
  rfl

end Cert.KernelIdeal.Exchange
-- ==== Proof.Ref.lean ====
/-
# The reference, read at an element

The scores, the softmax, the two gathered probabilities and the two chosen experts' products, each named and read.
-/
module

public import proofs.«01_k».proof.Proof.Gen.ReferenceIdeal.Run
public import proofs.«01_k».proof.Proof.Mix

@[expose] public section

set_option maxRecDepth 16384

noncomputable section

namespace Cert.ReferenceIdeal.Reading

open Cert.ReferenceIdeal Cert.ReferenceIdeal.Gen
open Idealize.ShloMosaic Idealize.ShloMosaic.TcCoe Cert.Mixture

/-- Every token's score for every expert. -/
def score (x : FVec Ideal S8192x512 .f32) (R : FVec Ideal S512x32 .f32) : FVec Ideal S8192x32 .f32 :=
  Host.dotGeneral dot_S8192x512_S512x32_S8192x32_1_0_0_1_n_n none x R

/-- A column of numbers, one per token, spread over the experts. -/
def spread (v : FVec Ideal S8192 .f32) : FVec Ideal S8192x32 .f32 :=
  broadcastInDim S8192x32 ![0, 1] bcast_S8192x1_S8192x32_0_1 (broadcastInDim S8192x1 ![0] bcast_S8192_S8192x1_0 v)

/-- A token's largest score. -/
def top (s : FVec Ideal S8192x32 .f32) : FVec Ideal S8192 .f32 :=
  Host.reduce FloatOps.maximumf s (constant S_ .f32 0xFF800000#32) reducesTo_S8192x32_S8192_d1 h_S_

/-- The exponentials of the scores, shifted by `v`. -/
def raised (s : FVec Ideal S8192x32 .f32) (v : FVec Ideal S8192 .f32) : FVec Ideal S8192x32 .f32 :=
  Host.exp (subf s (spread v))

/-- Numbers over their token's sum. -/
def shared (e : FVec Ideal S8192x32 .f32) : FVec Ideal S8192x32 .f32 :=
  Host.divf e (spread (Host.reduceAdd e (constant S_ .f32 0x00000000#32) reducesTo_S8192x32_S8192_d1 h_S_))

/-- A word that counts from the end when negative. -/
def wrap (n : BitVec 32) (v : IVec S8192 32) : IVec S8192x1 32 :=
  broadcastInDim S8192x1 ![0] bcast_S8192_S8192x1_0
    (select (cmpi .slt v (broadcastInDim S8192 ![] bcast_S_S8192 (constantI S_ 32 0#32)))
      (addi v (broadcastInDim S8192 ![] bcast_S_S8192 (constantI S_ 32 n))) v)

/-- The tokens' first and second choices. -/
def pick (b : Bool) (I : IVec S8192x2 32) : IVec S8192 32 :=
  match b with
  | false => shapeCast S8192 (extractStridedSlice S8192x1 ![0, 0] I slices_S8192x2_S8192x1_0_0) shapeCasts_S8192x1_S8192
  | true => shapeCast S8192 (extractStridedSlice S8192x1 ![0, 1] I slices_S8192x2_S8192x1_0_1) shapeCasts_S8192x1_S8192

/-- Each token's probability for its choice. -/
def gate (p : FVec Ideal S8192x32 .f32) (h : IVec S8192 32) : FVec Ideal S8192 .f32 :=
  Host.gather gather_S8192x32_S8192x2_S8192_n_01_n_n_01_1_11 p
    (concatenate S8192x2 1 [⟨S8192x1, wrap 8192#32 (iotaInDim S8192 32 0)⟩, ⟨S8192x1, wrap 32#32 h⟩] concatenates_S8192x1_S8192x1_S8192x2_d1)

/-- Each token times its choice's matrix. -/
def through (x : FVec Ideal S8192x512 .f32) (W : FVec Ideal S32x512x1024 .f32) (h : IVec S8192 32) : FVec Ideal S8192x1024 .f32 :=
  Host.dotGeneral dot_S8192x512_S8192x512x1024_S8192x1024_1_1_n_2_0_0 none x
    (Host.gather gather_S32x512x1024_S8192x1_S8192x512x1024_12_0_n_n_0_1_15121024 W (wrap 32#32 h))

/-- A column of numbers, one per token, times an array's rows. -/
def scaled (v : FVec Ideal S8192 .f32) (y : FVec Ideal S8192x1024 .f32) : FVec Ideal S8192x1024 .f32 :=
  mulf (broadcastInDim S8192x1024 ![0, 1] bcast_S8192x1_S8192x1024_0_1 (broadcastInDim S8192x1 ![0] bcast_S8192_S8192x1_0 v)) y

/-- The reference's result. -/
def result (x : FVec Ideal S8192x512 .f32) (R : FVec Ideal S512x32 .f32) (I : IVec S8192x2 32) (W : FVec Ideal S32x512x1024 .f32) :
    FVec Ideal S8192x1024 .f32 :=
  let p := shared (raised (score x R) (top (score x R)))
  let g (b : Bool) := gate p (pick b I)
  addf (scaled (Host.divf (g false) (addf (g false) (g true))) (through x W (pick false I)))
    (scaled (Host.divf (g true) (addf (g false) (g true))) (through x W (pick true I)))

/-- The printed reference is that result. -/
theorem result_eq (m : (ℓ : Loc nD τ sig) → Buf (Elt Ideal) ℓ) (c : Dev nD) :
    Value.res_main_v68 m c = result (m ((c.tc : Thread nD τ).loc main_arg0)) (m ((c.tc : Thread nD τ).loc main_arg1))
      (m ((c.tc : Thread nD τ).loc main_arg2)) (m ((c.tc : Thread nD τ).loc main_arg3)) := rfl

/-- A score is a sum of products. -/
theorem score_apply (x : FVec Ideal S8192x512 .f32) (R : FVec Ideal S512x32 .f32) (T : Fin 8192) (k : Fin 32) :
    score x R (ix2 T k) = ∑ d : Fin 512, x (ix2 T d) * R (ix2 d k) := by
  pointwise [score]

/-- A raised score is an exponential of a difference. -/
theorem raised_apply (s : FVec Ideal S8192x32 .f32) (v : FVec Ideal S8192 .f32) (T : Fin 8192) (k : Fin 32) :
    raised s v (ix2 T k) = Ideal.exp (s (ix2 T k) - v (ix1 T)) := by
  pointwise [raised, spread]

/-- A probability is a raised score over the sum of all. -/
theorem shared_apply (e : FVec Ideal S8192x32 .f32) (T : Fin 8192) (k : Fin 32) :
    shared e (ix2 T k) = Ideal.div (e (ix2 T k)) (∑ k : Fin 32, e (ix2 T k)) := by
  pointwise [shared, spread]

/-- A largest score among real ones is real. -/
theorem top_real (s : FVec Ideal S8192x32 .f32) (T : Fin 8192) (r : Fin 32 → ℝ) (hr : ∀ k, s (ix2 T k) = (r k : EReal)) :
    ∃ M : ℝ, top s (ix1 T) = (M : EReal) := by
  pointwise [top]
  rw [show Ideal.ofBits FTy.f32 4286578688#32 = (⊥ : EReal) by simp [Ideal.ofBits, Ideal.ieee]]
  simp only [hr]
  have h : ∀ S : Finset (Fin 32), S.Nonempty → ∃ M : ℝ, S.fold max (⊥ : EReal) (fun k => ((r k : ℝ) : EReal)) = (M : EReal) := by
    intro S
    induction S using Finset.induction_on with
    | empty => intro h; exact absurd h Finset.not_nonempty_empty
    | insert a S ha ih =>
      intro _
      rw [Finset.fold_insert ha]
      rcases S.eq_empty_or_nonempty with rfl | hS
      · exact ⟨r a, by simp⟩
      · obtain ⟨M, hM⟩ := ih hS
        exact ⟨max (r a) M, by rw [hM]; exact (EReal.coe_strictMono.monotone.map_max).symm⟩
  exact h _ Finset.univ_nonempty

/-- One of a token's two choices. -/
theorem pick_apply (b : Bool) (I : IVec S8192x2 32) (T : Fin 8192) : pick b I (ix1 T) = I (ix2 T (if b then 1 else 0)) := by
  cases b <;> pointwise [pick] <;> rfl

/-- A word that is not negative is left as it is. -/
theorem wrap_apply (n : BitVec 32) (v : IVec S8192 32) (T : Fin 8192) (z : Fin 1) (h : (v (ix1 T)).toNat < 2 ^ 31) :
    wrap n v (ix2 T z) = v (ix1 T) := by
  pointwise [wrap]
  have hs : (v (ix1 T)).slt 0#32 = false := by
    rw [BitVec.slt_eq_decide, BitVec.toInt_eq_toNat_cond]
    simp only [BitVec.toInt_zero, decide_eq_false_iff_not, not_lt]
    rw [if_pos (by omega)]
    omega
  simp [IntOp.cmpi, hs, Scalar.select]

/-- A word that names an expert or a token, read as the gather reads a start. -/
theorem start_of (w : BitVec 32) (N : ℕ) (h : w.toNat < N) (hN : N < 2 ^ 31) : min w.toInt.toNat (N - 1) = w.toNat := by
  rw [BitVec.toInt_eq_toNat_cond, if_pos (by omega)]
  omega

/-- The row gather: token `T`'s matrix is the one its word names. -/
theorem rows_apply (W : FVec Ideal S32x512x1024 .f32) (idx : IVec S8192x1 32) (T : Fin 8192) (d : Fin 512) (j : Fin 1024)
    (h : (idx (ix2 T 0)).toNat < 32) :
    Host.gather gather_S32x512x1024_S8192x1_S8192x512x1024_12_0_n_n_0_1_15121024 W idx (ix3 T d j)
      = W (ix3 ⟨(idx (ix2 T 0)).toNat, h⟩ d j) := by
  unfold Host.gather
  refine congrArg W (funext fun a => Fin.ext ?_)
  set D := gather_S32x512x1024_S8192x1_S8192x512x1024_12_0_n_n_0_1_15121024 with hD
  show D.start (ix3 T d j) idx a + D.batchCoord (ix3 T d j) a + D.offCoord (ix3 T d j) a = _
  rw [GatherDims.batchCoord_eq_zero _ _ _ List.not_mem_nil]
  have h012 : a = 0 ∨ a = 1 ∨ a = 2 := by
    match a with
    | ⟨0, _⟩ => exact .inl rfl
    | ⟨1, _⟩ => exact .inr (.inl rfl)
    | ⟨2, _⟩ => exact .inr (.inr rfl)
  have hm : ∀ a : Fin 3, a ≠ 0 → a ∉ ([0] : List (Fin 3)) := by decide
  have off : ∀ a : Fin 3, a ≠ 0 → D.start (ix3 T d j) idx a = 0 ∧ a ∈ D.sKept := fun a ha =>
    ⟨by unfold GatherDims.start; exact dif_neg (hm a ha), (GatherDims.mem_sKept _ _).mpr ⟨hm a ha, List.not_mem_nil⟩⟩
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ D.startIndexMap from List.mem_singleton.mpr rfl)]
    have hsi : D.siIdx (ix3 T d j) ⟨List.idxOf (0 : Fin 3) D.startIndexMap, List.idxOf_lt_length_iff.2 (List.mem_singleton.mpr rfl)⟩
        = ix2 T 0 := by
      funext b; refine Fin.ext ?_
      match b with
      | ⟨0, _⟩ => rfl
      | ⟨1, _⟩ => rfl
    rw [hsi]
    exact start_of _ 32 h (by decide)
  · rw [(off 1 (by decide)).1]
    unfold GatherDims.offCoord
    rw [dif_pos (off 1 (by decide)).2]
    show 0 + 0 + d.val = d.val
    omega
  · rw [(off 2 (by decide)).1]
    unfold GatherDims.offCoord
    rw [dif_pos (off 2 (by decide)).2]
    show 0 + 0 + j.val = j.val
    omega

/-- A token times its chosen expert. -/
theorem through_apply (x : FVec Ideal S8192x512 .f32) (W : FVec Ideal S32x512x1024 .f32) (v : IVec S8192 32) (T : Fin 8192) (j : Fin 1024)
    (h : (v (ix1 T)).toNat < 32) :
    through x W v (ix2 T j) = ∑ d : Fin 512, x (ix2 T d) * W (ix3 ⟨(v (ix1 T)).toNat, h⟩ d j) := by
  have hw := wrap_apply 32#32 v T 0 (by omega)
  pointwise [through]
  refine Finset.sum_congr rfl fun d _ => ?_
  rw [rows_apply W _ T d j (by rw [hw]; exact h)]
  simp only [hw]

/-- The pair gather: token `T`'s probability for the expert its word names. -/
theorem pairs_apply (p : FVec Ideal S8192x32 .f32) (idx : IVec S8192x2 32) (T : Fin 8192)
    (h0 : (idx (ix2 T 0)).toNat < 8192) (h1 : (idx (ix2 T 1)).toNat < 32) :
    Host.gather gather_S8192x32_S8192x2_S8192_n_01_n_n_01_1_11 p idx (ix1 T)
      = p (ix2 ⟨(idx (ix2 T 0)).toNat, h0⟩ ⟨(idx (ix2 T 1)).toNat, h1⟩) := by
  unfold Host.gather
  refine congrArg p (funext fun a => Fin.ext ?_)
  set D := gather_S8192x32_S8192x2_S8192_n_01_n_n_01_1_11 with hD
  show D.start (ix1 T) idx a + D.batchCoord (ix1 T) a + D.offCoord (ix1 T) a = _
  have hc : ∀ a : Fin 2, a ∈ ([0, 1] : List (Fin 2)) := by decide
  rw [GatherDims.batchCoord_eq_zero _ _ _ List.not_mem_nil,
    GatherDims.offCoord_eq_zero _ _ _ (fun h => ((GatherDims.mem_sKept _ _).mp h).1 (hc a))]
  unfold GatherDims.start
  rw [dif_pos (show a ∈ D.startIndexMap from hc a)]
  have hsi : ∀ b : Fin 2, D.siIdx (ix1 T) ⟨List.idxOf b D.startIndexMap, List.idxOf_lt_length_iff.2 (hc b)⟩ = ix2 T b := by
    intro b; funext e; refine Fin.ext ?_
    match b, e with
    | ⟨0, _⟩, ⟨0, _⟩ => rfl
    | ⟨0, _⟩, ⟨1, _⟩ => rfl
    | ⟨1, _⟩, ⟨0, _⟩ => rfl
    | ⟨1, _⟩, ⟨1, _⟩ => rfl
  rw [hsi a]
  match a with
  | ⟨0, _⟩ => exact start_of _ 8192 h0 (by decide)
  | ⟨1, _⟩ => exact start_of _ 32 h1 (by decide)

/-- A token's probability for its chosen expert. -/
theorem gate_apply (p : FVec Ideal S8192x32 .f32) (v : IVec S8192 32) (T : Fin 8192) (h : (v (ix1 T)).toNat < 32) :
    gate p v (ix1 T) = p (ix2 T ⟨(v (ix1 T)).toNat, h⟩) := by
  have hi : (iotaInDim S8192 32 0 : IVec S8192 32) (ix1 T) = BitVec.ofNat 32 T.val := rfl
  have ht := T.isLt
  have hn : (BitVec.ofNat 32 T.val).toNat = T.val := by rw [BitVec.toNat_ofNat]; omega
  have h0 := wrap_apply 8192#32 (iotaInDim S8192 32 0) T 0 (by rw [hi, hn]; omega)
  have h1 := wrap_apply 32#32 v T 0 (by omega)
  unfold gate
  generalize hA : wrap 8192#32 (iotaInDim S8192 32 0) = A at *
  generalize hB : wrap 32#32 v = B at *
  have e0 : concatenate S8192x2 1 [⟨S8192x1, A⟩, ⟨S8192x1, B⟩] concatenates_S8192x1_S8192x1_S8192x2_d1 (ix2 T 0) = A (ix2 T 0) := by
    pointwise
  have e1 : concatenate S8192x2 1 [⟨S8192x1, A⟩, ⟨S8192x1, B⟩] concatenates_S8192x1_S8192x1_S8192x2_d1 (ix2 T 1) = B (ix2 T 0) := by
    pointwise
  rw [h0, hi] at e0
  rw [h1] at e1
  rw [pairs_apply p _ T (by rw [e0, hn]; exact ht) (by rw [e1]; exact h)]
  simp only [e0, e1, hn]

/-- THE REFERENCE'S RESULT, read at token `T` and column `j`, where the token's scores are the real numbers `r`. -/
theorem result_apply (x : FVec Ideal S8192x512 .f32) (R : FVec Ideal S512x32 .f32) (I : IVec S8192x2 32) (W : FVec Ideal S32x512x1024 .f32)
    (T : Fin 8192) (j : Fin 1024) (r : Fin 32 → ℝ) (hr : ∀ k, ∑ d : Fin 512, x (ix2 T d) * R (ix2 d k) = (r k : EReal))
    (A B : Fin 32) (hA : I (ix2 T 0) = BitVec.ofNat 32 A.val) (hB : I (ix2 T 1) = BitVec.ofNat 32 B.val) :
    result x R I W (ix2 T j)
      = (((1 + Real.exp (-(r A - r B)))⁻¹ : ℝ) : EReal) * (∑ d : Fin 512, x (ix2 T d) * W (ix3 A d j))
        + ((1 - (1 + Real.exp (-(r A - r B)))⁻¹ : ℝ) : EReal) * ∑ d : Fin 512, x (ix2 T d) * W (ix3 B d j) := by
  have hw : ∀ C : Fin 32, (BitVec.ofNat 32 C.val).toNat = C.val := fun C => by
    have := C.isLt
    rw [BitVec.toNat_ofNat]; omega
  have p0 : pick false I (ix1 T) = BitVec.ofNat 32 A.val := (pick_apply false I T).trans hA
  have p1 : pick true I (ix1 T) = BitVec.ofNat 32 B.val := (pick_apply true I T).trans hB
  have l0 : (pick false I (ix1 T)).toNat < 32 := by rw [p0, hw]; exact A.isLt
  have l1 : (pick true I (ix1 T)).toNat < 32 := by rw [p1, hw]; exact B.isLt
  have hs : ∀ k, score x R (ix2 T k) = (r k : EReal) := fun k => (score_apply x R T k).trans (hr k)
  obtain ⟨M, hM⟩ := top_real (score x R) T r hs
  have he : ∀ k, raised (score x R) (top (score x R)) (ix2 T k) = ((Real.exp (r k - M) : ℝ) : EReal) := fun k => by
    rw [raised_apply, hs, hM, ← EReal.coe_sub]; rfl
  have hS : 0 < ∑ k : Fin 32, Real.exp (r k - M) := Finset.sum_pos (fun k _ => Real.exp_pos _) Finset.univ_nonempty
  have hq : ∀ k, shared (raised (score x R) (top (score x R))) (ix2 T k)
      = ((Real.exp (r k - M) / ∑ k : Fin 32, Real.exp (r k - M) : ℝ) : EReal) := fun k => by
    rw [shared_apply]
    simp only [he]
    rw [sum_coe, div_coe _ _ hS.ne']
  obtain ⟨h0, h1⟩ := weights (r A) (r B) M _ hS
  rw [h1, h0]
  have hd : 0 < Real.exp (r A - M) / (∑ k : Fin 32, Real.exp (r k - M)) + Real.exp (r B - M) / ∑ k : Fin 32, Real.exp (r k - M) :=
    add_pos (div_pos (Real.exp_pos _) hS) (div_pos (Real.exp_pos _) hS)
  pointwise [result, scaled]
  rw [gate_apply _ _ T l0, gate_apply _ _ T l1, through_apply x W _ T j l0, through_apply x W _ T j l1]
  simp only [p0, p1, hw, Fin.eta, hq]
  rw [← EReal.coe_add, div_coe _ _ hd.ne', div_coe _ _ hd.ne']

end Cert.ReferenceIdeal.Reading
-- ==== Proof.Values.lean ====
/-
# The kernel's result is the reference's

On routed tokens, device `c`'s rows of the kernel's result are rows `1024 c, …` of the reference's.
-/
module

public import proofs.«01_k».proof.Proof.Weights
public import proofs.«01_k».proof.Proof.Ref
public import proofs.«01_k».proof.Pre_routed_KernelIdeal

@[expose] public section

set_option maxRecDepth 16384

noncomputable section

namespace Cert.KernelIdeal.Exchange

open Cert.KernelIdeal Cert.KernelIdeal.Gen
open Idealize.ShloMosaic Idealize.ShloMosaic.TcCoe Cert.Mixture

/-- The shape relations that the precondition states. -/
theorem routedFacts : Cert.Pre_routed_KernelIdeal.Facts := ⟨by decide, by decide, by decide⟩

/-- The row of the whole array where a device's row lies. -/
abbrev row (c : Dev nD) (t : Fin 1024) : Fin 8192 := ⟨c.val * 1024 + t.val, by have h : c.val < 8 := c.isLt; omega⟩
/-- The place among all experts of a device's expert. -/
abbrev place (o : Dev nD) (i : Fin 4) : Fin 32 := ⟨o.val * 4 + i.val, by have h : o.val < 8 := o.isLt; omega⟩

/-- A choice between zero and thirty-two names an expert. -/
theorem expert_of (w : BitVec 32) (h0 : IntOp.cmpi .sge w 0#32 = 1#1) (h1 : IntOp.cmpi .slt w 32#32 = 1#1) : ∃ A : Fin 32, w = BitVec.ofNat 32 A.val := by
  have g0 : (0#32).sle w = true := by
    have : BitVec.ofBool ((0#32).sle w) = 1#1 := h0
    revert this; cases (0#32).sle w <;> simp
  have g1 : w.slt 32#32 = true := by
    have : BitVec.ofBool (w.slt 32#32) = 1#1 := h1
    revert this; cases w.slt 32#32 <;> simp
  have hw : w.toNat < 32 := by
    simp only [BitVec.sle, BitVec.slt, decide_eq_true_eq, BitVec.toInt_eq_toNat_cond, BitVec.toNat_ofNat] at g0 g1
    have := w.isLt
    split at g0 <;> omega
  exact ⟨⟨w.toNat, hw⟩, by simp⟩

/-- A value whose absolute value is below the infinite is real. -/
theorem real_of_cmp (x : EReal) (h : BitVec.ofBool (decide (max x (-x) < Ideal.ofBits FTy.f32 2139095040#32)) = 1#1) : x = (x.toReal : EReal) := by
  have e : Ideal.ofBits FTy.f32 2139095040#32 = ⊤ := by simp [Ideal.ofBits, Ideal.ieee]
  rw [e] at h
  refine real_of_abs ?_
  by_contra hn
  simp [hn] at h

variable (m : (ℓ : Loc nD τ sig) → Buf (Elt Ideal) ℓ) (ρ : Dev nD → PrngReg) (c : Dev nD)

attribute [local instance] routedFacts in
/-- The precondition, read at an element of each argument. -/
theorem routed_apply (x : FVec Ideal S1024x512 .f32) (R : FVec Ideal S512x32 .f32) (I : IVec S1024x2 32) (W : FVec Ideal S4x512x1024 .f32)
    (h0 : (Cert.Pre_routed_KernelIdeal.fn x R I W).1 = fun _ => 1#1) (h1 : (Cert.Pre_routed_KernelIdeal.fn x R I W).2.1 = fun _ => 1#1)
    (h2 : (Cert.Pre_routed_KernelIdeal.fn x R I W).2.2.1 = fun _ => 1#1) (h3 : (Cert.Pre_routed_KernelIdeal.fn x R I W).2.2.2 = fun _ => 1#1) :
    (∀ t d, x (ix2 t d) = ((x (ix2 t d)).toReal : EReal)) ∧ (∀ d k, R (ix2 d k) = ((R (ix2 d k)).toReal : EReal))
      ∧ ∀ t i, ∃ A : Fin 32, I (ix2 t i) = BitVec.ofNat 32 A.val := by
  refine ⟨fun t d => ?_, fun d k => ?_, fun t i => ?_⟩
  · have h := congrFun h0 (ix2 t d)
    pointwise [Cert.Pre_routed_KernelIdeal.fn] at h
    exact real_of_cmp _ h
  · have h := congrFun h1 (ix2 d k)
    pointwise [Cert.Pre_routed_KernelIdeal.fn] at h
    exact real_of_cmp _ h
  · have h := congrFun h2 (ix2 t i)
    have h' := congrFun h3 (ix2 t i)
    pointwise [Cert.Pre_routed_KernelIdeal.fn] at h
    pointwise [Cert.Pre_routed_KernelIdeal.fn] at h'
    exact expert_of _ h h'

/-- A device's rows of an array cut by rows. -/
theorem block_x (v : FVec Ideal ⟨2, ![8192, 512]⟩ .f32) (t d) : (Layout.block ⟨2, ![1024, 512]⟩ ⟨2, ![8192, 512]⟩ 0 8 c v) (ix2 t d) = v (ix2 (row c t) d) := by
  rw [Layout.block_apply]
  refine congrArg v (funext fun a => Fin.ext ?_)
  match a with
  | ⟨0, _⟩ => rfl
  | ⟨1, _⟩ => rfl
@[inherit_doc block_x] theorem block_i (v : IVec ⟨2, ![8192, 2]⟩ 32) (t d) : (Layout.block ⟨2, ![1024, 2]⟩ ⟨2, ![8192, 2]⟩ 0 8 c v) (ix2 t d) = v (ix2 (row c t) d) := by
  rw [Layout.block_apply]
  refine congrArg v (funext fun a => Fin.ext ?_)
  match a with
  | ⟨0, _⟩ => rfl
  | ⟨1, _⟩ => rfl
@[inherit_doc block_x] theorem block_y (v : FVec Ideal ⟨2, ![8192, 1024]⟩ .f32) (t d) : (Layout.block ⟨2, ![1024, 1024]⟩ ⟨2, ![8192, 1024]⟩ 0 8 c v) (ix2 t d) = v (ix2 (row c t) d) := by
  rw [Layout.block_apply]
  refine congrArg v (funext fun a => Fin.ext ?_)
  match a with
  | ⟨0, _⟩ => rfl
  | ⟨1, _⟩ => rfl
/-- A device's experts of the array of all experts. -/
theorem block_e (o : Dev nD) (v : FVec Ideal ⟨3, ![32, 512, 1024]⟩ .f32) (i d j) : (Layout.block ⟨3, ![4, 512, 1024]⟩ ⟨3, ![32, 512, 1024]⟩ 0 8 o v) (ix3 i d j) = v (ix3 (place o i) d j) := by
  rw [Layout.block_apply]
  refine congrArg v (funext fun a => Fin.ext ?_)
  match a with
  | ⟨0, _⟩ => rfl
  | ⟨1, _⟩ => rfl
  | ⟨2, _⟩ => rfl

/-- With real tokens and router and choices that name experts, an element of the kernel's result is the reference's. -/
theorem outC_eq_result (x : FVec Ideal ⟨2, ![8192, 512]⟩ .f32) (R : FVec Ideal ⟨2, ![512, 32]⟩ .f32) (I : IVec ⟨2, ![8192, 2]⟩ 32) (W : FVec Ideal ⟨3, ![32, 512, 1024]⟩ .f32)
    (hx : ∀ t d, m ((c : Thread nD τ).loc main_arg0) (ix2 t d) = x (ix2 (row c t) d)) (hR : ∀ d k, m ((c : Thread nD τ).loc main_arg1) (ix2 d k) = R (ix2 d k))
    (hI : ∀ t i, m ((c : Thread nD τ).loc main_arg2) (ix2 t i) = I (ix2 (row c t) i))
    (hW : ∀ (o : Dev nD) i d j, m ((o : Thread nD τ).loc main_arg3) (ix3 i d j) = W (ix3 (place o i) d j))
    (t j : Fin 1024) (px : ∀ d, x (ix2 (row c t) d) = ((x (ix2 (row c t) d)).toReal : EReal)) (pR : ∀ d k, R (ix2 d k) = ((R (ix2 d k)).toReal : EReal))
    (A B : Fin 32) (hA : I (ix2 (row c t) 0) = BitVec.ofNat 32 A.val) (hB : I (ix2 (row c t) 1) = BitVec.ofNat 32 B.val) :
    outC m ρ c (ix2 t j) = Cert.ReferenceIdeal.Reading.result x R I W (ix2 (row c t) j) := by
  let r : Fin 32 → ℝ := fun k => ∑ d : Fin 512, (x (ix2 (row c t) d)).toReal * (R (ix2 d k)).toReal
  have hr : ∀ k, ∑ d : Fin 512, x (ix2 (row c t) d) * R (ix2 d k) = (r k : EReal) := fun k =>
    score_coe (fun d => x (ix2 (row c t) d)) (fun d => R (ix2 d k)) px (fun d => pR d k)
  have ex : ∀ d, xst m ρ c (ix2 t d) = x (ix2 (row c t) d) := fun d => (xst_apply m ρ c t d).trans (hx t d)
  have eR : ∀ d k, rst m ρ c (ix2 d k) = R (ix2 d k) := fun d k => (rst_apply m ρ c d k).trans (hR d k)
  have e0 : ist m ρ c (ix2 t 0) = BitVec.ofNat 32 A.val := ((ist_apply m ρ c t 0).trans (hI t 0)).trans hA
  have e1 : ist m ρ c (ix2 t 1) = BitVec.ofNat 32 B.val := ((ist_apply m ρ c t 1).trans (hI t 1)).trans hB
  have hr' : ∀ k, ∑ d : Fin 512, xst m ρ c (ix2 t d) * rst m ρ c (ix2 d k) = (r k : EReal) := fun k => by
    rw [← hr k]; exact Finset.sum_congr rfl fun d _ => by rw [ex, eR]
  have hE : (0 : ℝ) < Real.exp (-(r A - r B)) := Real.exp_pos _
  have hu : (0 : ℝ) ≤ (1 + Real.exp (-(r A - r B)))⁻¹ := by positivity
  have hv : (0 : ℝ) ≤ 1 - (1 + Real.exp (-(r A - r B)))⁻¹ := by
    have := inv_le_one_of_one_le₀ (by linarith : (1 : ℝ) ≤ 1 + Real.exp (-(r A - r B)))
    linarith
  rw [Cert.ReferenceIdeal.Reading.result_apply x R I W (row c t) j r hr A B hA hB, outC_apply,
    ← sum_part (fun d => x (ix2 (row c t) d)) _ _ (EReal.coe_nonneg.mpr hu) (EReal.coe_ne_top _) (EReal.coe_nonneg.mpr hv) (EReal.coe_ne_top _) _ _ A B rfl rfl
      (fun k d => W (ix3 k d j))]
  refine Fin.sum_mul_add_congr (n := 4) (fun o i hl => ?_) (by decide)
  unfold add num
  rw [wt0_apply m ρ c t r hr' A B e0 e1, wt1_apply m ρ c t r hr' A B e0 e1, ch0_apply, ch1_apply, e0, e1, mul_comm 4 o.val]
  refine congrArg₂ (fun a b => part a _ _ _ _ _ b) (funext fun d => ?_) (funext fun d => ?_)
  · exact (xb_apply m ρ c t d).trans (ex d)
  · exact (est_apply m ρ o i d j).trans (hW o i d j)

attribute [local instance] routedFacts in
/-- On routed tokens a device's result is its rows of the reference's. -/
theorem outC_eq_block (x : FVec Ideal ⟨2, ![8192, 512]⟩ .f32) (R : FVec Ideal ⟨2, ![512, 32]⟩ .f32) (I : IVec ⟨2, ![8192, 2]⟩ 32) (W : FVec Ideal ⟨3, ![32, 512, 1024]⟩ .f32)
    (hx : ∀ c : Dev nD, m ((c : Thread nD τ).loc main_arg0) = Layout.block ⟨2, ![1024, 512]⟩ ⟨2, ![8192, 512]⟩ 0 8 c x)
    (hR : ∀ c : Dev nD, m ((c : Thread nD τ).loc main_arg1) = R)
    (hI : ∀ c : Dev nD, m ((c : Thread nD τ).loc main_arg2) = Layout.block ⟨2, ![1024, 2]⟩ ⟨2, ![8192, 2]⟩ 0 8 c I)
    (hW : ∀ c : Dev nD, m ((c : Thread nD τ).loc main_arg3) = Layout.block ⟨3, ![4, 512, 1024]⟩ ⟨3, ![32, 512, 1024]⟩ 0 8 c W)
    (h0 : (Cert.Pre_routed_KernelIdeal.fn (F := Ideal) (m ((c : Thread nD τ).loc main_arg0)) (m ((c : Thread nD τ).loc main_arg1)) (m ((c : Thread nD τ).loc main_arg2)) (m ((c : Thread nD τ).loc main_arg3))).1 = fun _ => 1#1)
    (h1 : (Cert.Pre_routed_KernelIdeal.fn (F := Ideal) (m ((c : Thread nD τ).loc main_arg0)) (m ((c : Thread nD τ).loc main_arg1)) (m ((c : Thread nD τ).loc main_arg2)) (m ((c : Thread nD τ).loc main_arg3))).2.1 = fun _ => 1#1)
    (h2 : (Cert.Pre_routed_KernelIdeal.fn (F := Ideal) (m ((c : Thread nD τ).loc main_arg0)) (m ((c : Thread nD τ).loc main_arg1)) (m ((c : Thread nD τ).loc main_arg2)) (m ((c : Thread nD τ).loc main_arg3))).2.2.1 = fun _ => 1#1)
    (h3 : (Cert.Pre_routed_KernelIdeal.fn (F := Ideal) (m ((c : Thread nD τ).loc main_arg0)) (m ((c : Thread nD τ).loc main_arg1)) (m ((c : Thread nD τ).loc main_arg2)) (m ((c : Thread nD τ).loc main_arg3))).2.2.2 = fun _ => 1#1) :
    outC m ρ c = Layout.block ⟨2, ![1024, 1024]⟩ ⟨2, ![8192, 1024]⟩ 0 8 c (Cert.ReferenceIdeal.Reading.result x R I W) := by
  obtain ⟨px, pR, pI⟩ := routed_apply _ _ _ _ h0 h1 h2 h3
  have ex : ∀ t d, m ((c : Thread nD τ).loc main_arg0) (ix2 t d) = x (ix2 (row c t) d) := fun t d => (congrFun (hx c) _).trans (block_x c x t d)
  have eR : ∀ d k, m ((c : Thread nD τ).loc main_arg1) (ix2 d k) = R (ix2 d k) := fun d k => congrFun (hR c) _
  have eI : ∀ t i, m ((c : Thread nD τ).loc main_arg2) (ix2 t i) = I (ix2 (row c t) i) := fun t i => (congrFun (hI c) _).trans (block_i c I t i)
  have eW : ∀ (o : Dev nD) i d j, m ((o : Thread nD τ).loc main_arg3) (ix3 i d j) = W (ix3 (place o i) d j) := fun o i d j => (congrFun (hW o) _).trans (block_e o W i d j)
  have all : ∀ t j : Fin 1024, outC m ρ c (ix2 t j) = Layout.block ⟨2, ![1024, 1024]⟩ ⟨2, ![8192, 1024]⟩ 0 8 c (Cert.ReferenceIdeal.Reading.result x R I W) (by decide) (ix2 t j) := by
    intro t j
    obtain ⟨A, hA⟩ := pI t 0
    obtain ⟨B, hB⟩ := pI t 1
    refine (outC_eq_result m ρ c x R I W ex eR eI eW t j (fun d => ?_) (fun d k => ?_) A B ((eI t 0).symm.trans hA) ((eI t 1).symm.trans hB)).trans (block_y c _ t j).symm
    · rw [← ex]; exact px t d
    · rw [← eR]; exact pR d k
  funext i
  have e : i = ix2 (i 0) (i 1) := funext fun a => match a with | ⟨0, _⟩ => rfl | ⟨1, _⟩ => rfl
  rw [e]
  exact all _ _

end Cert.KernelIdeal.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Adequacy
public import Idealize.ShloMosaic.Init

@[expose] public section

noncomputable section

namespace Cert.Proof

open Idealize.ShloMosaic Idealize.SL.Sem Cert.Kernel

/-- On any float values, a run of the exchange leaves each device's arguments unchanged and every counter at zero. -/
theorem kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c =>
      ⟨(h.1 c (0 : Fin 5)).trans (Cert.KernelIdeal.Exchange.finalA_in m ρ c (0 : Fin 5) rfl),
       (h.1 c (1 : Fin 5)).trans (Cert.KernelIdeal.Exchange.finalA_in m ρ c (1 : Fin 5) rfl),
       (h.1 c (2 : Fin 5)).trans (Cert.KernelIdeal.Exchange.finalA_in m ρ c (2 : Fin 5) rfl),
       (h.1 c (3 : Fin 5)).trans (Cert.KernelIdeal.Exchange.finalA_in m ρ c (3 : Fin 5) rfl)⟩, h.2⟩)
    (Cert.KernelIdeal.Exchange.run_main m ρ)

/-- The kernel on exact values. -/
theorem frame_kernelIdeal : Cert.quiescent_KernelIdeal := fun m ρ _ => kept (F := Ideal) m ρ
/-- The kernel on words runs the same body. -/
theorem bodies_eq : Cert.Kernel.defs₀ (F := Bits) = Cert.KernelIdeal.defs₀ := by
  funext pr l a
  cases pr with
  | tc =>
    obtain ⟨l, hl⟩ := l
    cases l with
    | zero => rfl
    | succ n => exact absurd hl (by omega)
  | scScalar _ => rfl
  | scVector _ _ => rfl
/-- The kernel on words has the same regions. -/
theorem defs_eq : Cert.Kernel.defs (F := Bits) = Cert.KernelIdeal.defs := congrArg (Pipeline.defs Cert.KernelIdeal.pcfgs) bodies_eq

/-- The kernel on words: the two programs have one text. -/
theorem frame_kernel : Cert.quiescent_Kernel := fun m ρ _ => by
  rw [defs_eq]
  exact kept (F := Bits) m ρ

/-- The reference keeps its arguments; it has no counters. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The shape relations that the precondition states of the reference's arguments. -/
theorem routedFacts' : Cert.Pre_routed_ReferenceIdeal.Facts := ⟨by decide, by decide, by decide⟩

attribute [local instance] Cert.Kernel.Gen.facts Cert.KernelIdeal.Gen.facts Cert.ReferenceIdeal.Gen.facts Cert.KernelIdeal.Exchange.routedFacts routedFacts'

/-- On every input where tokens and router are real and each choice names an expert, the devices' results are the rows of the
    reference's result. -/
theorem values : Cert.algebraic_KernelIdeal_ReferenceIdeal_pre_routed_KernelIdeal := by
  intro m g m' g' hpre hin
  refine ⟨Cert.ReferenceIdeal.Value.res_main_v68 m' 0, ?_, ?_⟩
  · refine (θ_run Cert.KernelIdeal.defs _ _).mono (fun r h c => ⟨?_, (h.1 c (0 : Fin 5)).trans (Cert.KernelIdeal.Exchange.finalA_in m g c (0 : Fin 5) rfl),
       (h.1 c (1 : Fin 5)).trans (Cert.KernelIdeal.Exchange.finalA_in m g c (1 : Fin 5) rfl),
       (h.1 c (2 : Fin 5)).trans (Cert.KernelIdeal.Exchange.finalA_in m g c (2 : Fin 5) rfl),
       (h.1 c (3 : Fin 5)).trans (Cert.KernelIdeal.Exchange.finalA_in m g c (3 : Fin 5) rfl)⟩) (Cert.KernelIdeal.Exchange.run_main m g)
    refine ((h.1 c (4 : Fin 5)).trans (Cert.KernelIdeal.Exchange.finalA_out m g c)).trans ?_
    exact Cert.KernelIdeal.Exchange.outC_eq_block m g c _ _ _ _ (fun c => (hin c).1) (fun c => (hin c).2.1) (fun c => (hin c).2.2.1) (fun c => (hin c).2.2.2)
      (hpre c).1 (hpre c).2.1 (hpre c).2.2.1 (hpre c).2.2.2
  · exact (θ_run Cert.ReferenceIdeal.defs _ _).mono (fun r h => h 0) (Cert.ReferenceIdeal.Value.run (F := Ideal) m' g')

/-- All the claims. -/
theorem claim : Cert.Claim := ⟨Cert.Kernel.Gen.facts, Cert.KernelIdeal.Gen.facts, Cert.ReferenceIdeal.Gen.facts,
  Cert.KernelIdeal.Exchange.routedFacts, routedFacts',
  frame_kernel, frame_kernelIdeal, fun m ρ _ => frame_kernelIdeal m ρ trivial, frame_referenceIdeal, fun m ρ _ => frame_referenceIdeal m ρ trivial, trivial, values⟩

end Cert.Proof

end
